-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1536 : Shape := ⟨2, ![2048, 1536]⟩
abbrev S2048x8960 : Shape := ⟨2, ![2048, 8960]⟩
abbrev S2048x70 : Shape := ⟨2, ![2048, 70]⟩
abbrev S8960x1536 : Shape := ⟨2, ![8960, 1536]⟩
abbrev S70x12 : Shape := ⟨2, ![70, 12]⟩
abbrev S1536 : Shape := ⟨1, ![1536]⟩
abbrev S3 : Shape := ⟨1, ![3]⟩
abbrev S1x1536 : Shape := ⟨2, ![1, 1536]⟩
abbrev S2x1536 : Shape := ⟨2, ![2, 1536]⟩
abbrev S2 : Shape := ⟨1, ![2]⟩
abbrev S256x1536 : Shape := ⟨2, ![256, 1536]⟩
abbrev S256x8960 : Shape := ⟨2, ![256, 8960]⟩
abbrev S256x70 : Shape := ⟨2, ![256, 70]⟩
abbrev S2x8x1536 : Shape := ⟨3, ![2, 8, 1536]⟩
abbrev S_ : Shape := ⟨0, ![]⟩
abbrev S1x1 : Shape := ⟨2, ![1, 1]⟩
abbrev S1x128 : Shape := ⟨2, ![1, 128]⟩
abbrev S128x128 : Shape := ⟨2, ![128, 128]⟩
abbrev S256x128 : Shape := ⟨2, ![256, 128]⟩
abbrev S256x1 : Shape := ⟨2, ![256, 1]⟩
abbrev S256 : Shape := ⟨1, ![256]⟩
abbrev S1 : Shape := ⟨1, ![1]⟩
abbrev S32x8x1536 : Shape := ⟨3, ![32, 8, 1536]⟩
abbrev S1x8x1536 : Shape := ⟨3, ![1, 8, 1536]⟩
abbrev S8x1536 : Shape := ⟨2, ![8, 1536]⟩

abbrev nBuf : Space → Nat
  | .hbm => 16
  | .vmem => 17
  | .smem => 3
  | _ => 0

abbrev bufTy : (tb : Table) → Fin (tcTables nBuf tb) → BufTy
  | .hbm, ⟨0, _⟩ => ⟨S2048x1536, .bf16⟩
  | .hbm, ⟨1, _⟩ => ⟨S2048x8960, .fp8e4m3⟩
  | .hbm, ⟨2, _⟩ => ⟨S2048x70, .f32⟩
  | .hbm, ⟨3, _⟩ => ⟨S8960x1536, .fp8e4m3⟩
  | .hbm, ⟨4, _⟩ => ⟨S70x12, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S3, .i32⟩
  | .hbm, ⟨9, _⟩ => ⟨S1x1536, .f32⟩
  | .hbm, ⟨10, _⟩ => ⟨S1x1536, .f32⟩
  | .hbm, ⟨11, _⟩ => ⟨S1x1536, .f32⟩
  | .hbm, ⟨12, _⟩ => ⟨S2048x1536, .f32⟩
  | .hbm, ⟨13, _⟩ => ⟨S2x1536, .f32⟩
  | .hbm, ⟨14, _⟩ => ⟨S2x1536, .i8⟩
  | .hbm, ⟨15, _⟩ => ⟨S2, .f32⟩
  | .local _ .vmem, ⟨0, _⟩ => ⟨S256x1536, .bf16⟩
  | .local _ .vmem, ⟨1, _⟩ => ⟨S256x1536, .bf16⟩
  | .local _ .vmem, ⟨2, _⟩ => ⟨S256x8960, .fp8e4m3⟩
  | .local _ .vmem, ⟨3, _⟩ => ⟨S256x8960, .fp8e4m3⟩
  | .local _ .vmem, ⟨4, _⟩ => ⟨S256x70, .f32⟩
  | .local _ .vmem, ⟨5, _⟩ => ⟨S256x70, .f32⟩
  | .local _ .vmem, ⟨6, _⟩ => ⟨S1x1536, .f32⟩
  | .local _ .vmem, ⟨7, _⟩ => ⟨S1x1536, .f32⟩
  | .local _ .vmem, ⟨8, _⟩ => ⟨S1x1536, .f32⟩
  | .local _ .vmem, ⟨9, _⟩ => ⟨S256x1536, .f32⟩
  | .local _ .vmem, ⟨10, _⟩ => ⟨S256x1536, .f32⟩
  | .local _ .vmem, ⟨11, _⟩ => ⟨S2x1536, .f32⟩
  | .local _ .vmem, ⟨12, _⟩ => ⟨S2x1536, .i8⟩
  | .local _ .vmem, ⟨13, _⟩ => ⟨S8960x1536, .fp8e4m3⟩
  | .local _ .vmem, ⟨14, _⟩ => ⟨S8960x1536, .bf16⟩
  | .local _ .vmem, ⟨15, _⟩ => ⟨S256x8960, .bf16⟩
  | .local _ .vmem, ⟨16, _⟩ => ⟨S2x8x1536, .f32⟩
  | .local _ .smem, ⟨0, _⟩ => ⟨S3, .i32⟩
  | .local _ .smem, ⟨1, _⟩ => ⟨S70x12, .f32⟩
  | .local _ .smem, ⟨2, _⟩ => ⟨S2, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_stg1_0 : Ref sig .tc := ⟨.smem, 1, rfl⟩
abbrev cc0_stg11_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_254 : BitVec 32 := 0#32
  let c70_i32 : BitVec 32 := 70#32
  let v645 : BitVec 32 := Scalar.addi c0_i32_254 c70_i32
  let c1_i32 : BitVec 32 := 1#32
  ⟨c0_i32_254, v645, c1_i32⟩
def k0_mult1 (k0_t1 : Fin k0_t1_loop.trips) : BitVec 32 :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  v646
def k0_off1 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v648 : Index := Scalar.indexCast arg19
  let c0_256 : Index := 0#32
  ![v648.toNat, 0]
def k0_off2 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v652 : Index := Scalar.indexCast v647
  let c0_257 : Index := 0#32
  ![v652.toNat, 0]
def k0_off3 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v661 : Index := Scalar.indexCast arg19
  let c1_259 : Index := 1#32
  ![v661.toNat, 1]
def k0_off4 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v665 : Index := Scalar.indexCast v647
  let c128_260 : Index := 128#32
  ![v665.toNat, 128]
def k0_off5 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v674 : Index := Scalar.indexCast arg19
  let c2_262 : Index := 2#32
  ![v674.toNat, 2]
def k0_off6 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v678 : Index := Scalar.indexCast v647
  let c256_263 : Index := 256#32
  ![v678.toNat, 256]
def k0_off7 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v687 : Index := Scalar.indexCast arg19
  let c3 : Index := 3#32
  ![v687.toNat, 3]
def k0_off8 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v691 : Index := Scalar.indexCast v647
  let c384_265 : Index := 384#32
  ![v691.toNat, 384]
def k0_off9 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v700 : Index := Scalar.indexCast arg19
  let c4 : Index := 4#32
  ![v700.toNat, 4]
def k0_off10 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v704 : Index := Scalar.indexCast v647
  let c512_267 : Index := 512#32
  ![v704.toNat, 512]
def k0_off11 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v713 : Index := Scalar.indexCast arg19
  let c5 : Index := 5#32
  ![v713.toNat, 5]
def k0_off12 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v717 : Index := Scalar.indexCast v647
  let c640_269 : Index := 640#32
  ![v717.toNat, 640]
def k0_off13 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v726 : Index := Scalar.indexCast arg19
  let c6 : Index := 6#32
  ![v726.toNat, 6]
def k0_off14 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v730 : Index := Scalar.indexCast v647
  let c768_271 : Index := 768#32
  ![v730.toNat, 768]
def k0_off15 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v739 : Index := Scalar.indexCast arg19
  let c7 : Index := 7#32
  ![v739.toNat, 7]
def k0_off16 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v743 : Index := Scalar.indexCast v647
  let c896_273 : Index := 896#32
  ![v743.toNat, 896]
def k0_off17 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v752 : Index := Scalar.indexCast arg19
  let c8 : Index := 8#32
  ![v752.toNat, 8]
def k0_off18 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v756 : Index := Scalar.indexCast v647
  let c1024_275 : Index := 1024#32
  ![v756.toNat, 1024]
def k0_off19 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v765 : Index := Scalar.indexCast arg19
  let c9 : Index := 9#32
  ![v765.toNat, 9]
def k0_off20 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v769 : Index := Scalar.indexCast v647
  let c1152_277 : Index := 1152#32
  ![v769.toNat, 1152]
def k0_off21 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v778 : Index := Scalar.indexCast arg19
  let c10 : Index := 10#32
  ![v778.toNat, 10]
def k0_off22 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v782 : Index := Scalar.indexCast v647
  let c1280_279 : Index := 1280#32
  ![v782.toNat, 1280]
def k0_off23 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let v791 : Index := Scalar.indexCast arg19
  let c11 : Index := 11#32
  ![v791.toNat, 11]
def k0_off24 (k0_t1 : Fin k0_t1_loop.trips) : Fin 2 → Nat :=
  let c0_i32_254 : BitVec 32 := 0#32
  let c1_i32 : BitVec 32 := 1#32
  let arg19 : BitVec 32 := Scf.iv c0_i32_254 c1_i32 k0_t1
  let c128_i32 : BitVec 32 := 128#32
  let v646 : BitVec 32 := Scalar.muli arg19 c128_i32
  let v647 : BitVec 32 := v646
  let v795 : Index := Scalar.indexCast v647
  let c1408_281 : Index := 1408#32
  ![v795.toNat, 1408]
def k0_cond2 (i : grid0.Coords) : BitVec 1 :=
  let arg0 : BitVec 32 := BitVec.ofNat 32 (i 0).val
  let c7_i32 : BitVec 32 := 7#32
  let v638 : BitVec 1 := Scalar.cmpi .eq arg0 c7_i32
  let v639 : BitVec 32 := Scalar.extui v638
  let c0_i32_249 : BitVec 32 := 0#32
  let v640 : BitVec 1 := Scalar.cmpi .ne v639 c0_i32_249
  v640

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S70x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8960 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x70 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1536 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x1536 : Shape := ⟨2, ![2048, 1536]⟩
abbrev S2048x8960 : Shape := ⟨2, ![2048, 8960]⟩
abbrev S2048x70 : Shape := ⟨2, ![2048, 70]⟩
abbrev S8960x1536 : Shape := ⟨2, ![8960, 1536]⟩
abbrev S70x12 : Shape := ⟨2, ![70, 12]⟩
abbrev S1536 : Shape := ⟨1, ![1536]⟩
abbrev S3 : Shape := ⟨1, ![3]⟩
abbrev S2x1536 : Shape := ⟨2, ![2, 1536]⟩
abbrev S2 : Shape := ⟨1, ![2]⟩
abbrev S2048x70x128 : Shape := ⟨3, ![2048, 70, 128]⟩
abbrev S2048x70x1 : Shape := ⟨3, ![2048, 70, 1]⟩
abbrev S70x128x12x128 : Shape := ⟨4, ![70, 128, 12, 128]⟩
abbrev S70x1x12x1 : Shape := ⟨4, ![70, 1, 12, 1]⟩
abbrev S1x1536 : Shape := ⟨2, ![1, 1536]⟩
abbrev S2048 : Shape := ⟨1, ![2048]⟩
abbrev S2048x1 : Shape := ⟨2, ![2048, 1]⟩
abbrev S1x2048 : Shape := ⟨2, ![1, 2048]⟩
abbrev S1 : Shape := ⟨1, ![1]⟩
abbrev S1x1 : Shape := ⟨2, ![1, 1]⟩
abbrev S1x2 : Shape := ⟨2, ![1, 2]⟩
abbrev S2x1 : Shape := ⟨2, ![2, 1]⟩
abbrev S2x2048 : Shape := ⟨2, ![2, 2048]⟩

abbrev nBuf : Space → Nat
  | .hbm => 13
  | .vmem => 13
  | .smem => 0
  | _ => 0

abbrev bufTy : (tb : Table) → Fin (tcTables nBuf tb) → BufTy
  | .hbm, ⟨0, _⟩ => ⟨S2048x1536, .bf16⟩
  | .hbm, ⟨1, _⟩ => ⟨S2048x8960, .fp8e4m3⟩
  | .hbm, ⟨2, _⟩ => ⟨S2048x70, .f32⟩
  | .hbm, ⟨3, _⟩ => ⟨S8960x1536, .fp8e4m3⟩
  | .hbm, ⟨4, _⟩ => ⟨S70x12, .f32⟩
  | .hbm, ⟨5, _⟩ => ⟨S1536, .f32⟩
  | .hbm, ⟨6, _⟩ => ⟨S1536, .f32⟩
  | .hbm, ⟨7, _⟩ => ⟨S1536, .f32⟩
  | .hbm, ⟨8, _⟩ => ⟨S3, .i32⟩
  | .hbm, ⟨9, _⟩ => ⟨S2048x1536, .f32⟩
  | .hbm, ⟨10, _⟩ => ⟨S2x1536, .f32⟩
  | .hbm, ⟨11, _⟩ => ⟨S2x1536, .i8⟩
  | .hbm, ⟨12, _⟩ => ⟨S2, .f32⟩
  | .local _ .vmem, ⟨0, _⟩ => ⟨S2048x1536, .bf16⟩
  | .local _ .vmem, ⟨1, _⟩ => ⟨S2048x8960, .fp8e4m3⟩
  | .local _ .vmem, ⟨2, _⟩ => ⟨S2048x70, .f32⟩
  | .local _ .vmem, ⟨3, _⟩ => ⟨S8960x1536, .fp8e4m3⟩
  | .local _ .vmem, ⟨4, _⟩ => ⟨S70x12, .f32⟩
  | .local _ .vmem, ⟨5, _⟩ => ⟨S1536, .f32⟩
  | .local _ .vmem, ⟨6, _⟩ => ⟨S1536, .f32⟩
  | .local _ .vmem, ⟨7, _⟩ => ⟨S1536, .f32⟩
  | .local _ .vmem, ⟨8, _⟩ => ⟨S3, .i32⟩
  | .local _ .vmem, ⟨9, _⟩ => ⟨S2048x1536, .f32⟩
  | .local _ .vmem, ⟨10, _⟩ => ⟨S2x1536, .f32⟩
  | .local _ .vmem, ⟨11, _⟩ => ⟨S2x1536, .i8⟩
  | .local _ .vmem, ⟨12, _⟩ => ⟨S2, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2048x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x70 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8960x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S70x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1536 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Spec.lean ====
module

public import Idealize.ShloMosaic.Lib.Pointwise

/-! # The mathematics, row by row

What both programs compute, written over plain functions of the indices with the extended reals as
numbers: the dequantized operands, one row of the projection, its layer norm, the packed rows, the
two segment means, and the int8 quantization of the normalised means. -/

@[expose] public section

set_option maxRecDepth 16384
noncomputable section
namespace Spec
open Idealize.ShloMosaic Idealize.ShloMosaic.TcCoe Idealize.SL.Sem

/-- A row of activations, each element times the scale of its group of 128 columns. -/
def hdRow (h : Fin 8960 → EReal) (s : Fin 70 → EReal) (k : Fin 8960) : EReal :=
  h k * s ⟨k.val / 128, by omega⟩

/-- The weight matrix, each element times the scale of its 128×128 block. -/
def wdAt (w : Fin 8960 → Fin 1536 → EReal) (s : Fin 70 → Fin 12 → EReal) (k : Fin 8960) (l : Fin 1536) : EReal :=
  w k l * s ⟨k.val / 128, by omega⟩ ⟨l.val / 128, by omega⟩

/-- A row of the residual plus its down projection plus the bias. -/
def yRow (x : Fin 1536 → EReal) (hd : Fin 8960 → EReal) (wd : Fin 8960 → Fin 1536 → EReal) (b : Fin 1536 → EReal)
    (l : Fin 1536) : EReal :=
  x l + ∑ k, hd k * wd k l + b l

/-- A row minus its mean. -/
def centre (y : Fin 1536 → EReal) (l : Fin 1536) : EReal :=
  y l - Ideal.div (∑ k, y k) (Ideal.ofBits .f32 0x44C00000#32)

/-- One over the standard deviation of a centred row (with the layer norm's epsilon under the root). -/
def rstd (c : Fin 1536 → EReal) : EReal :=
  Ideal.rsqrt (Ideal.div (∑ k, c k * c k) (Ideal.ofBits .f32 0x44C00000#32) + Ideal.ofBits .f32 0x3727C5AC#32)

/-- The layer norm of a row. -/
def normRow (y g be : Fin 1536 → EReal) (l : Fin 1536) : EReal :=
  centre y l * rstd (centre y) * g l + be l

/-- The bit "row `r` lies before position `c`", positions compared as signed 32-bit words. -/
def before (r : ℕ) (c : BitVec 32) : BitVec 1 :=
  IntOp.cmpi .slt (BitVec.ofNat 32 r) c

/-- Row `r` of the packed result: the layer norm where the row is in use (`r` before the end), else zero. -/
def zRow (n : Fin 1536 → EReal) (r : ℕ) (c2 : BitVec 32) (l : Fin 1536) : EReal :=
  Scalar.select (before r c2) (n l) 0

/-- The part of the packed row that belongs to segment `b`: segment 0 is the rows before `c1`, segment 1 the others. -/
def segRow (b : Fin 2) (z : EReal) (r : ℕ) (c1 : BitVec 32) : EReal :=
  if b = 0 then Scalar.select (before r c1) z 0 else Scalar.select (before r c1) 0 z

/-- The mean of segment `b` in column `l`: its rows summed, over its length `ce - cs`. -/
def meanAt (b : Fin 2) (z : Fin 2048 → Fin 1536 → EReal) (c1 ce cs : BitVec 32) (l : Fin 1536) : EReal :=
  Ideal.div (∑ r : Fin 2048, segRow b (z r l) r.val c1) (FloatOps.sitofp (F := Ideal) .f32 (IntOp.subi ce cs))

/-- A vector over its length (at least a tiny number). -/
def unit (m : Fin 1536 → EReal) (l : Fin 1536) : EReal :=
  Ideal.div (m l) (max (Ideal.sqrt (∑ k, m k * m k)) (Ideal.ofBits .f32 0x2B8CBCCC#32))

/-- The largest magnitude in a vector. -/
def amax (e : Fin 1536 → EReal) : EReal :=
  Finset.univ.fold max (Ideal.ofBits .f32 0xFF800000#32) fun k => FloatOps.absf (F := Ideal) (φ := .f32) (e k)

/-- The quantization step of a vector: its largest magnitude over 127, or 1 for the zero vector. -/
def scale (e : Fin 1536 → EReal) : EReal :=
  if amax e = 0 then 1 else Ideal.div (amax e) (Ideal.ofBits .f32 0x42FE0000#32)

/-- The int8 code of entry `l`: the entry over the step, rounded to even, kept within ±127. -/
def code (e : Fin 1536 → EReal) (l : Fin 1536) : BitVec 8 :=
  FloatOps.fptosi (F := Ideal) (φ := .f32) 8
    (min (Ideal.ofBits .f32 0x42FE0000#32) (max (Ideal.ofBits .f32 0xC2FE0000#32)
      (Ideal.liftRound Ideal.roundHalfEven (Ideal.div (e l) (scale e)))))

end Spec
-- ==== Proof.KernelPure.lean ====
module

public import Idealize.ShloMosaic.Lib.Pointwise
public import proofs.«01_k».proof.Proof.Gen.KernelIdeal.Skeleton
public import proofs.«01_k».proof.Proof.Spec

/-! # What one kernel step computes

The values the kernel stores at one grid point, over the vectors it has loaded, are the row-by-row
functions of `Spec`. Grid point `t` treats the rows `256 t …`. -/

@[expose] public section

set_option maxRecDepth 16384
noncomputable section
namespace KernelPure
open Idealize.ShloMosaic Idealize.ShloMosaic.TcCoe Idealize.SL.Sem
open Cert.KernelIdeal Cert.KernelIdeal.Gen

/-- The centred row: residual, projection and bias, minus the row's mean. -/
theorem pay112_at (hd : Vec Ideal S256x8960 .bf16) (wd : Vec Ideal S8960x1536 .bf16) (x : Vec Ideal S256x1536 .bf16)
    (b : Vec Ideal S1x1536 .f32) (r : Fin 256) (l : Fin 1536) :
    k0_pay112 (F := Ideal) hd wd x b (ix2 r l) =
      Spec.centre (Spec.yRow (fun l => x (ix2 r l)) (fun k => hd (ix2 r k)) (fun k l => wd (ix2 k l)) fun l => b (ix2 0 l)) l := by
  pointwise [k0_pay112, Spec.centre, Spec.yRow]
  all_goals rfl

/-- One over the row's standard deviation, in every column. -/
theorem pay113_at (hd : Vec Ideal S256x8960 .bf16) (wd : Vec Ideal S8960x1536 .bf16) (x : Vec Ideal S256x1536 .bf16)
    (b : Vec Ideal S1x1536 .f32) (r : Fin 256) (l : Fin 1536) :
    k0_pay113 (F := Ideal) hd wd x b (ix2 r l) =
      Spec.rstd (Spec.centre (Spec.yRow (fun l => x (ix2 r l)) (fun k => hd (ix2 r k)) (fun k l => wd (ix2 k l))
        fun l => b (ix2 0 l))) := by
  pointwise [k0_pay113, Spec.rstd, pay112_at]
  all_goals rfl

/-- The word of a global row number: the block's first row plus the row inside the block. -/
theorem row_word (t r : ℕ) :
    IntOp.addi (Scalar.muli (BitVec.ofNat 32 t) 256#32) (BitVec.ofNat 32 r) = BitVec.ofNat 32 (t * 256 + r) := by
  show BitVec.ofNat 32 t * 256#32 + BitVec.ofNat 32 r = _
  apply BitVec.eq_of_toNat_eq
  simp [BitVec.toNat_add, BitVec.toNat_mul, Nat.add_mod, Nat.mul_mod]

/-- The block of packed rows: the normalised row where it is in use, else zero. -/
theorem pay115_at (t : ℕ) (hd : Vec Ideal S256x8960 .bf16) (wd : Vec Ideal S8960x1536 .bf16) (x : Vec Ideal S256x1536 .bf16)
    (b g be : Vec Ideal S1x1536 .f32) (c2 : Elt Ideal .i32) (r : Fin 256) (l : Fin 1536) :
    k0_pay115 (F := Ideal) (BitVec.ofNat 32 t) (k0_pay112 hd wd x b) (k0_pay113 hd wd x b) g be c2 (ix2 r l) =
      Spec.zRow (Spec.normRow (Spec.yRow (fun l => x (ix2 r l)) (fun k => hd (ix2 r k)) (fun k l => wd (ix2 k l))
        fun l => b (ix2 0 l)) (fun l => g (ix2 0 l)) fun l => be (ix2 0 l)) (t * 256 + r.val) c2 l := by
  pointwise [k0_pay115, k0_pay114, pay112_at, pay113_at, Spec.zRow, Spec.before, Spec.normRow, row_word]
  all_goals rfl

/-- The running sums of segment 0 take the block's rows before the boundary, eight rows at a time. -/
theorem pay117_at (t : ℕ) (c s : FVec Ideal S256x1536 .f32) (g be : Vec Ideal S1x1536 .f32) (c2 c1 : Elt Ideal .i32)
    (a : Vec Ideal S1x8x1536 .f32) (q : Fin 8) (l : Fin 1536) :
    k0_pay117 (F := Ideal) (BitVec.ofNat 32 t) c s g be c2 c1 a (ix3 0 q l) =
      (show EReal from a (ix3 0 q l)) + ∑ k : Fin 32, Spec.segRow 0
        (k0_pay115 (F := Ideal) (BitVec.ofNat 32 t) c s g be c2 (ix2 ⟨k.val * 8 + q.val, by omega⟩ l))
        (t * 256 + (k.val * 8 + q.val)) c1 := by
  pointwise [k0_pay117, k0_pay116, k0_pay114, Spec.segRow, Spec.before, row_word]
  all_goals rfl

/-- The running sums of segment 1 take the block's other rows, eight rows at a time. -/
theorem pay1_at (t : ℕ) (z : FVec Ideal S256x1536 .f32) (c1 : Elt Ideal .i32)
    (a : Vec Ideal S1x8x1536 .f32) (q : Fin 8) (l : Fin 1536) :
    k0_pay1 (F := Ideal) z (k0_pay118 (F := Ideal) (BitVec.ofNat 32 t) c1) k0_pay119 a (ix3 0 q l) =
      (show EReal from a (ix3 0 q l)) + ∑ k : Fin 32, Spec.segRow 1
        (z (ix2 ⟨k.val * 8 + q.val, by omega⟩ l)) (t * 256 + (k.val * 8 + q.val)) c1 := by
  pointwise [k0_pay1, k0_pay118, k0_pay119, k0_pay116, k0_pay114, Spec.segRow, Spec.before, row_word]
  all_goals rfl

/-- The running sums start from zero. -/
theorem pay25_at (b : Fin 2) (q : Fin 8) (l : Fin 1536) : k0_pay25 (F := Ideal) (ix3 b q l) = (0 : EReal) := by
  pointwise [k0_pay25]

/-- The mean of a segment from its eight partial sums. -/
theorem pay15_at (ce cs : Elt Ideal .i32) (a : Vec Ideal S1x8x1536 .f32) (l : Fin 1536) :
    k0_pay15 (F := Ideal) ce cs a (ix2 0 l) =
      Ideal.div (∑ q : Fin 8, (show EReal from a (ix3 0 q l))) (FloatOps.sitofp (F := Ideal) .f32 (IntOp.subi ce cs)) := by
  pointwise [k0_pay15]
  all_goals rfl

/-- The mean over its length. -/
theorem pay16_at (ce cs : Elt Ideal .i32) (a : Vec Ideal S1x8x1536 .f32) (l : Fin 1536) :
    k0_pay16 (F := Ideal) ce cs a (ix2 0 l) = Spec.unit (fun l => k0_pay15 (F := Ideal) ce cs a (ix2 0 l)) l := by
  pointwise [k0_pay16, Spec.unit]

/-- The quantization step of the normalised mean. -/
theorem pay17_at (ce cs : Elt Ideal .i32) (a : Vec Ideal S1x8x1536 .f32) :
    k0_pay17 (F := Ideal) ce cs a (ix2 0 0) = Spec.scale (fun l => k0_pay16 (F := Ideal) ce cs a (ix2 0 l)) := by
  pointwise [k0_pay17, Spec.scale, Spec.amax]

/-- The quantization step of the normalised mean, as the scalar stored. -/
theorem pay19_eq (ce cs : Elt Ideal .i32) (a : Vec Ideal S1x8x1536 .f32) :
    k0_pay19 (F := Ideal) ce cs a = Spec.scale (fun l => k0_pay16 (F := Ideal) ce cs a (ix2 0 l)) := by
  pointwise [k0_pay19, pay17_at]

/-- The codes of the normalised mean. -/
theorem pay18_at (ce cs : Elt Ideal .i32) (a : Vec Ideal S1x8x1536 .f32) (l : Fin 1536) :
    k0_pay18 (F := Ideal) ce cs a (ix2 0 l) = Spec.code (fun l => k0_pay16 (F := Ideal) ce cs a (ix2 0 l)) l := by
  pointwise [k0_pay18, Spec.code, pay17_at]

/-- The second segment's values are computed as the first segment's. -/
theorem pay20_eq (ce cs : Elt Ideal .i32) (a : Vec Ideal S1x8x1536 .f32) :
    k0_pay20 (F := Ideal) ce cs a = k0_pay15 ce cs a := rfl

/-- The second segment's scale is computed as the first segment's. -/
theorem pay23_eq (ce cs : Elt Ideal .i32) (a : Vec Ideal S1x8x1536 .f32) :
    k0_pay23 (F := Ideal) ce cs a = k0_pay19 ce cs a := rfl

/-- The stored codes: row 0 those of segment 0, row 1 those of segment 1. -/
theorem pay24_at (c : IVec S1x1536 8) (ce cs : Elt Ideal .i32) (a : Vec Ideal S1x8x1536 .f32) (s : Fin 2) (l : Fin 1536) :
    k0_pay24 (F := Ideal) c ce cs a (ix2 s l) =
      if s = 0 then c (ix2 0 l) else Spec.code (fun l => k0_pay16 (F := Ideal) ce cs a (ix2 0 l)) l := by
  have e22 : k0_pay22 (F := Ideal) ce cs a = k0_pay17 ce cs a := rfl
  have e21 : k0_pay21 (F := Ideal) ce cs a = k0_pay16 ce cs a := rfl
  pointwise [k0_pay24, e22, e21, pay17_at, Spec.code]
  fin_cases s <;> rfl

end KernelPure
-- ==== Proof.KernelHd.lean ====
module

public import Idealize.ShloMosaic.Lib.Pipeline.ValueKit
public import Idealize.ShloMosaic.Lib.Pointwise
public import proofs.«01_k».proof.Proof.Gen.KernelIdeal.Value
public import proofs.«01_k».proof.Proof.Spec

/-! # The dequantized activations of one block

At every grid point the kernel writes the dequantized block of activations in 70 column blocks of
128, column block `j` with the scales of column `j`. Together they are the whole block, each element
times the scale of its group. -/

@[expose] public section

set_option maxRecDepth 16384
noncomputable section
namespace KernelHd
open Idealize.ShloMosaic Idealize.ShloMosaic.TcCoe Idealize.SL.Sem
open Cert.KernelIdeal Cert.KernelIdeal.Gen

/-- Column block `j` lies inside the block of activations. -/
theorem inb (j : Fin 70) : ∀ a, (![0, 128 * j.val] : Fin 2 → ℕ) a + S256x128.size a ≤ S256x8960.size a := by
  intro a
  fin_cases a
  · show 0 + 256 ≤ 256; omega
  · show 128 * j.val + 128 ≤ 8960; omega

/-- Column `j` of the scales is inside them. -/
theorem slices (j : Fin 70) : S256x70.Slices ![0, j.val] S256x1 := by
  have h : ∀ j : Fin 70, S256x70.Slices ![0, j.val] S256x1 := by decide
  exact h j

/-- Column block `j` of the dequantized activations, from the scales and that block of the activations. -/
def pay (j : Fin 70) (hs : Vec Ideal S256x70 .f32) (v : Vec Ideal S256x128 .fp8e4m3) : FVec Ideal S256x128 .bf16 :=
  shapeCast S256x128 (mulf (extf .bf16 v bitsLt_fp8e4m3_bf16) (broadcastTo S256x128
    (extractStridedSlice S256x1 ![0, j.val] (truncf .bf16 (show FVec Ideal S256x70 .f32 from hs) bitsLt_bf16_f32) (slices j)) broadcasts_S256x1_S256x128))
    shapeCasts_S256x128_S256x128

/-- Column block `j` at an index: the element times its row's scale in column `j`. -/
theorem pay_at (j : Fin 70) (hs : Vec Ideal S256x70 .f32) (v : Vec Ideal S256x128 .fp8e4m3) (r : Fin 256) (q : Fin 128) :
    pay j hs v (ix2 r q) = (show EReal from v (ix2 r q)) * hs (ix2 r j) := by
  pointwise [pay]
  all_goals rfl

/-- The store of column block `j`. -/
def piece (h : Vec Ideal S256x8960 .fp8e4m3) (hs : Vec Ideal S256x70 .f32) (j : Fin 70) : View.Piece (Elt Ideal) S256x8960 .bf16 :=
  ⟨Rect.unit (s := S256x8960) ![0, 128 * j.val] S256x128.size (inb j),
    pay j hs (View.ld (Val := Elt Ideal) (S := S256x8960) (e' := .fp8e4m3) h (Rect.unit (s := S256x8960) ![0, 128 * j.val] S256x128.size (inb j)))⟩

/-- The 70 stores, the last one first. -/
def pieces (h : Vec Ideal S256x8960 .fp8e4m3) (hs : Vec Ideal S256x70 .f32) : List (View.Piece (Elt Ideal) S256x8960 .bf16) :=
  List.ofFn fun k : Fin 70 => piece h hs k.rev

/-- The dequantized block of activations. -/
def hd (h : Vec Ideal S256x8960 .fp8e4m3) (hs : Vec Ideal S256x70 .f32) : Vec Ideal S256x8960 .bf16 :=
  fun y => Spec.hdRow (fun k => h (ix2 (y 0) k)) (fun j => hs (ix2 (y 0) j)) (y 1)

/-- The store of column block `j` writes that block of the dequantized activations. -/
theorem piece_at (h : Vec Ideal S256x8960 .fp8e4m3) (hs : Vec Ideal S256x70 .f32) (j : Fin 70)
    (x : (piece h hs j).1.shape.Idx) : (piece h hs j).2 x = hd h hs ((piece h hs j).1.emb x) := by
  obtain ⟨r, q, rfl⟩ : ∃ (r : Fin 256) (q : Fin 128), x = (ix2 r q : S256x128.Idx) := ⟨x 0, x 1, eq_ix2 x⟩
  refine (pay_at j hs _ r q).trans ?_
  have hz : (piece h hs j).1.emb (ix2 r q : S256x128.Idx) = (ix2 r ⟨128 * j.val + q.val, by omega⟩ : S256x8960.Idx) := by
    funext a
    apply Fin.ext
    fin_cases a
    · show 0 + 1 * r.val = r.val; omega
    · show 128 * j.val + 1 * q.val = 128 * j.val + q.val; omega
  rw [hz]
  refine congrArg₂ (fun u v : EReal => u * v) (congrArg h hz) (congrArg (fun k => hs (ix2 r k)) (Fin.ext ?_))
  show j.val = (128 * j.val + q.val) / 128
  omega

/-- The 70 stores leave the dequantized block of activations. -/
theorem canon_pieces (h : Vec Ideal S256x8960 .fp8e4m3) (hs : Vec Ideal S256x70 .f32) :
    View.canon (pieces h hs) = hd h hs := by
  funext y
  refine View.canon_apply_of_pieces (hd h hs) _ ?_ y ?_
  · intro p hp x
    obtain ⟨k, rfl⟩ := (List.mem_ofFn).mp hp
    exact piece_at h hs k.rev x
  · have h1 : (y 1).val < 8960 := (y 1).isLt
    have h0 : (y 0).val < 256 := (y 0).isLt
    refine ⟨piece h hs ⟨(y 1).val / 128, by omega⟩, (List.mem_ofFn).mpr ⟨(⟨(y 1).val / 128, by omega⟩ : Fin 70).rev, ?_⟩, ?_⟩
    · rw [Fin.rev_rev]
    refine (Rect.mem_set_unit (inb := inb ⟨(y 1).val / 128, by omega⟩)).mpr fun a => ?_
    fin_cases a
    · show 0 ≤ (y 0).val ∧ (y 0).val < 0 + 256
      omega
    · show 128 * ((y 1).val / 128) ≤ (y 1).val ∧ (y 1).val < 128 * ((y 1).val / 128) + 128
      omega

/-- Read back whole, the 70 stores are the dequantized block of activations. -/
theorem read_pieces {κ : Kind} {sp : Space} (v : View sig κ sp S256x8960 .bf16) (h : Vec Ideal S256x8960 .fp8e4m3)
    (hs : Vec Ideal S256x70 .f32) (hb : ∀ a, (![0, 0] : Fin 2 → ℕ) a + S256x8960.size a ≤ S256x8960.size a) :
    v.readCov (Val := Elt Ideal) (pieces h hs) (Rect.unit (s := S256x8960) ![0, 0] S256x8960.size hb).toLoadRect = hd h hs := by
  rw [View.readCov_eq_canon', canon_pieces]
  funext y
  refine congrArg (hd h hs) (funext fun a => Fin.ext ?_)
  fin_cases a
  · show 0 + 1 * (y 0).val = (y 0).val; omega
  · show 0 + 1 * (y 1).val = (y 1).val; omega

end KernelHd
-- ==== Proof.KernelWeights.lean ====
module

public import Idealize.ShloMosaic.Lib.Pipeline.ValueKit
public import Idealize.ShloMosaic.Lib.Pipeline.ReadBack
public import Idealize.ShloMosaic.Lib.Pointwise
public import proofs.«01_k».proof.Proof.Gen.KernelIdeal.Value
public import proofs.«01_k».proof.Proof.Spec

/-! # The dequantized weights

At the first grid point a loop of 70 trips writes the dequantized weights into a scratch: trip `k`
writes rows `128 k` to `128 k + 127` in twelve blocks of 128 columns, each block of the weights times
its own scale. Together the stores are the whole dequantized matrix. -/

@[expose] public section

set_option maxRecDepth 16384
noncomputable section
namespace KernelWeights
open Idealize.ShloMosaic Idealize.ShloMosaic.TcCoe Idealize.SL.Sem
open Cert.KernelIdeal Cert.KernelIdeal.Gen

/-- The dequantized weights: each element times the scale of its 128×128 block. -/
def wd (w : Vec Ideal S8960x1536 .fp8e4m3) (ws : Vec Ideal S70x12 .f32) : Vec Ideal S8960x1536 .bf16 :=
  fun y => Spec.wdAt (fun k l => w (ix2 k l)) (fun i j => ws (ix2 i j)) (y 0) (y 1)

/-- A payload that scales a block by one number. -/
def Scales (P : Elt Ideal .f32 → Vec Ideal S128x128 .fp8e4m3 → Vec Ideal S128x128 .bf16) : Prop :=
  ∀ s v (r q : Fin 128), P s v (ix2 r q) = (show EReal from v (ix2 r q)) * s

/-- The payload of column block 0 scales the block. -/
theorem pay2_scales : Scales fun s v => k0_pay2 s v := by
  intro s v r q
  pointwise [k0_pay2]
  all_goals rfl

/-- The payload of column block 1 scales the block. -/
theorem pay3_scales : Scales fun s v => k0_pay3 s v := by
  intro s v r q
  pointwise [k0_pay3]
  all_goals rfl

/-- The payload of column block 2 scales the block. -/
theorem pay4_scales : Scales fun s v => k0_pay4 s v := by
  intro s v r q
  pointwise [k0_pay4]
  all_goals rfl

/-- The payload of column block 3 scales the block. -/
theorem pay6_scales : Scales fun s v => k0_pay6 (k0_pay5 s) v := by
  intro s v r q
  pointwise [k0_pay6, k0_pay5]
  all_goals rfl

/-- The payload of column block 4 scales the block. -/
theorem pay7_scales : Scales fun s v => k0_pay7 s v := by
  intro s v r q
  pointwise [k0_pay7]
  all_goals rfl

/-- The payload of column block 5 scales the block. -/
theorem pay8_scales : Scales fun s v => k0_pay8 s v := by
  intro s v r q
  pointwise [k0_pay8]
  all_goals rfl

/-- The payload of column block 6 scales the block. -/
theorem pay10_scales : Scales fun s v => k0_pay10 (k0_pay9 s v) := by
  intro s v r q
  pointwise [k0_pay10, k0_pay9]
  all_goals rfl

/-- The payload of column block 7 scales the block. -/
theorem pay11_scales : Scales fun s v => k0_pay11 s v := by
  intro s v r q
  pointwise [k0_pay11]
  all_goals rfl

/-- The payload of column block 8 scales the block. -/
theorem pay12_scales : Scales fun s v => k0_pay12 s v := by
  intro s v r q
  pointwise [k0_pay12]
  all_goals rfl

/-- The payload of column block 9 scales the block. -/
theorem pay13_scales : Scales fun s v => k0_pay13 s v := by
  intro s v r q
  pointwise [k0_pay13]
  all_goals rfl

/-- The payload of column block 10 scales the block. -/
theorem pay26_scales : Scales fun s v => k0_pay26 (k0_pay14 s) v := by
  intro s v r q
  pointwise [k0_pay26, k0_pay14]
  all_goals rfl

/-- The payload of column block 11 scales the block. -/
theorem pay27_scales : Scales fun s v => k0_pay27 s v := by
  intro s v r q
  pointwise [k0_pay27]
  all_goals rfl

/-- A store of a scaled block at rows `128 k`, columns `128 j`, of the weights read there and the scale
read at `k, j`, writes that block of the dequantized weights. -/
theorem store_at {P : Elt Ideal .f32 → Vec Ideal S128x128 .fp8e4m3 → Vec Ideal S128x128 .bf16} (hP : Scales P)
    {κ κ' : Kind} {sp sp' : Space} (v2 : View sig κ sp S70x12 .f32) (v14 : View sig κ' sp' S8960x1536 .fp8e4m3)
    (X2 : v2.ty.Contents (Elt Ideal)) (X14 : v14.ty.Contents (Elt Ideal))
    (w : Vec Ideal S8960x1536 .fp8e4m3) (ws : Vec Ideal S70x12 .f32)
    (h2 : v2.read (Elt Ideal) X2 = ws) (h14 : v14.read (Elt Ideal) X14 = w)
    (k j o os cc : ℕ) (ho : o = 128 * k) (hos : os = k) (hc : cc = 128 * j)
    (hi2 : ∀ a, (![os, j] : Fin 2 → ℕ) a + S1x1.size a ≤ S70x12.size a)
    (hi14 : ∀ a, (![o, cc] : Fin 2 → ℕ) a + S128x128.size a ≤ S8960x1536.size a)
    (hn : (Rect.unit (s := S70x12) ![os, j] S1x1.size hi2).toLoadRect.shape.numel = 1)
    (x : (Rect.unit (s := S8960x1536) ![o, cc] S128x128.size hi14).shape.Idx) :
    P (v2.readAt (Elt Ideal) (Rect.unit (s := S70x12) ![os, j] S1x1.size hi2).toLoadRect X2 (Shape.Idx.first (by rw [hn]; exact Nat.one_pos)))
        (v14.readAt (Elt Ideal) (Rect.unit (s := S8960x1536) ![o, cc] S128x128.size hi14).toLoadRect X14) x
      = wd w ws ((Rect.unit (s := S8960x1536) ![o, cc] S128x128.size hi14).emb x) := by
  subst ho hos hc h2 h14
  obtain ⟨r, q, rfl⟩ : ∃ (r : Fin 128) (q : Fin 128), x = (ix2 r q : S128x128.Idx) := ⟨x 0, x 1, eq_ix2 x⟩
  have hb0 : 128 * os + 128 ≤ 8960 := hi14 0
  have hb1 : 128 * j + 128 ≤ 1536 := hi14 1
  have hone : ∀ (f : S1x1.Idx) a, (f a).val = 0 := fun f a => by
    have h : (f a).val < S1x1.size a := (f a).isLt
    fin_cases a
    · exact Nat.lt_one_iff.mp h
    · exact Nat.lt_one_iff.mp h
  refine (hP _ _ r q).trans ?_
  have hz : (Rect.unit (s := S8960x1536) ![128 * os, 128 * j] S128x128.size hi14).emb (ix2 r q : S128x128.Idx)
      = (ix2 ⟨128 * os + r.val, by omega⟩ ⟨128 * j + q.val, by omega⟩ : S8960x1536.Idx) := by
    funext a
    apply Fin.ext
    fin_cases a
    · show 128 * os + 1 * r.val = 128 * os + r.val; omega
    · show 128 * j + 1 * q.val = 128 * j + q.val; omega
  rw [hz]
  refine congrArg₂ (fun u v : EReal => u * v) (congrArg (v14.read (Elt Ideal) X14) hz) ?_
  refine congrArg (v2.read (Elt Ideal) X2) (funext fun a => Fin.ext ?_)
  fin_cases a
  · refine Eq.trans (b := os + 1 * 0) (congrArg (fun z => os + 1 * z) (hone _ 0)) ?_
    show os + 1 * 0 = (128 * os + r.val) / 128
    omega
  · refine Eq.trans (b := j + 1 * 0) (congrArg (fun z => j + 1 * z) (hone _ 1)) ?_
    show j + 1 * 0 = (128 * j + q.val) / 128
    omega

/-- The loop's counter at trip `k`, as a number. -/
theorem iv_val (k : ℕ) (hk : k < 70) : BitVec.toNat (Scalar.indexCast (Scf.iv 0#32 1#32 k)) = k := by
  have h : ∀ k : Fin 70, BitVec.toNat (Scalar.indexCast (Scf.iv 0#32 1#32 k.val)) = k.val := by decide
  exact h ⟨k, hk⟩

/-- 128 times the loop's counter at trip `k`, as a number. -/
theorem row_val (k : ℕ) (hk : k < 70) :
    BitVec.toNat (Scalar.indexCast (Scalar.muli (Scf.iv 0#32 1#32 k) 128#32)) = 128 * k := by
  have h : ∀ k : Fin 70, BitVec.toNat (Scalar.indexCast (Scalar.muli (Scf.iv 0#32 1#32 k.val) 128#32)) = 128 * k.val := by decide
  exact h ⟨k, hk⟩

/-- Every store of trip `k` writes a block of the dequantized weights. -/
theorem trip_pieces  (𝒱 : Variants) (c : Dev nD) (bd : Option 𝒱.V) (i : grid0.Coords) (arg1 : Memref sig .tc .smem S3 .i32) (harg1 : arg1.IsWhole) (arg2 : Memref sig .tc .smem S70x12 .f32) (harg2 : arg2.IsWhole) (arg3 : Memref sig .tc .vmem S256x1536 .bf16) (harg3 : arg3.IsWhole) (arg4 : Memref sig .tc .vmem S256x8960 .fp8e4m3) (harg4 : arg4.IsWhole) (arg5 : Memref sig .tc .vmem S256x70 .f32) (harg5 : arg5.IsWhole) (arg6 : Memref sig .tc .hbm S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S256x1536 .f32) (harg10 : arg10.IsWhole) (arg11 : Memref sig .tc .vmem S2x1536 .f32) (harg11 : arg11.IsWhole) (arg12 : Memref sig .tc .vmem S2x1536 .i8) (harg12 : arg12.IsWhole) (arg13 : Memref sig .tc .smem S2 .f32) (harg13 : arg13.IsWhole) (arg14 : Memref sig .tc .vmem S8960x1536 .fp8e4m3) (harg14 : arg14.IsWhole) (arg15 : Memref sig .tc .vmem S8960x1536 .bf16) (harg15 : arg15.IsWhole) (arg16 : Memref sig .tc .vmem S256x8960 .bf16) (harg16 : arg16.IsWhole) (arg17 : Memref sig .tc .vmem S2x8x1536 .f32) (harg17 : arg17.IsWhole) (arg18 : DmaSems sig S_) (k0_h1 : k0_cond1 i = 1#1) (X_arg2 : BufTy.Contents (Elt Ideal) arg2.view.ty) (X_arg14 : BufTy.Contents (Elt Ideal) arg14.view.ty) (k : Fin k0_t1_loop.trips)  (w : Vec Ideal S8960x1536 .fp8e4m3) (ws : Vec Ideal S70x12 .f32)
    (h2 : arg2.view.read (Elt Ideal) X_arg2 = ws) (h14 : arg14.view.read (Elt Ideal) X_arg14 = w) :
    View.PiecesOf (wd w ws) (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 k) := by
  have hk : k.val < 70 := Nat.lt_of_lt_of_le k.isLt k0_t1_abs.2.1
  unfold tripL_k0_t1 trip_k0_t1
  sl_unfold_words
  dsimp only
  exact ⟨fun x => store_at pay27_scales _ _ _ _ w ws h2 h14 k.val 11 _ _ _ (row_val _ hk) (iv_val _ hk) rfl _ _ rfl x,
    fun x => store_at pay26_scales _ _ _ _ w ws h2 h14 k.val 10 _ _ _ (row_val _ hk) (iv_val _ hk) rfl _ _ rfl x,
    fun x => store_at pay13_scales _ _ _ _ w ws h2 h14 k.val 9 _ _ _ (row_val _ hk) (iv_val _ hk) rfl _ _ rfl x,
    fun x => store_at pay12_scales _ _ _ _ w ws h2 h14 k.val 8 _ _ _ (row_val _ hk) (iv_val _ hk) rfl _ _ rfl x,
    fun x => store_at pay11_scales _ _ _ _ w ws h2 h14 k.val 7 _ _ _ (row_val _ hk) (iv_val _ hk) rfl _ _ rfl x,
    fun x => store_at pay10_scales _ _ _ _ w ws h2 h14 k.val 6 _ _ _ (row_val _ hk) (iv_val _ hk) rfl _ _ rfl x,
    fun x => store_at pay8_scales _ _ _ _ w ws h2 h14 k.val 5 _ _ _ (row_val _ hk) (iv_val _ hk) rfl _ _ rfl x,
    fun x => store_at pay7_scales _ _ _ _ w ws h2 h14 k.val 4 _ _ _ (row_val _ hk) (iv_val _ hk) rfl _ _ rfl x,
    fun x => store_at pay6_scales _ _ _ _ w ws h2 h14 k.val 3 _ _ _ (row_val _ hk) (iv_val _ hk) rfl _ _ rfl x,
    fun x => store_at pay4_scales _ _ _ _ w ws h2 h14 k.val 2 _ _ _ (row_val _ hk) (iv_val _ hk) rfl _ _ rfl x,
    fun x => store_at pay3_scales _ _ _ _ w ws h2 h14 k.val 1 _ _ _ (row_val _ hk) (iv_val _ hk) rfl _ _ rfl x,
    fun x => store_at pay2_scales _ _ _ _ w ws h2 h14 k.val 0 _ _ _ (row_val _ hk) (iv_val _ hk) rfl _ _ rfl x, trivial⟩

/-- Every store of the trips before `k` writes a block of the dequantized weights. -/
theorem loop_pieces  (𝒱 : Variants) (c : Dev nD) (bd : Option 𝒱.V) (i : grid0.Coords) (arg1 : Memref sig .tc .smem S3 .i32) (harg1 : arg1.IsWhole) (arg2 : Memref sig .tc .smem S70x12 .f32) (harg2 : arg2.IsWhole) (arg3 : Memref sig .tc .vmem S256x1536 .bf16) (harg3 : arg3.IsWhole) (arg4 : Memref sig .tc .vmem S256x8960 .fp8e4m3) (harg4 : arg4.IsWhole) (arg5 : Memref sig .tc .vmem S256x70 .f32) (harg5 : arg5.IsWhole) (arg6 : Memref sig .tc .hbm S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S256x1536 .f32) (harg10 : arg10.IsWhole) (arg11 : Memref sig .tc .vmem S2x1536 .f32) (harg11 : arg11.IsWhole) (arg12 : Memref sig .tc .vmem S2x1536 .i8) (harg12 : arg12.IsWhole) (arg13 : Memref sig .tc .smem S2 .f32) (harg13 : arg13.IsWhole) (arg14 : Memref sig .tc .vmem S8960x1536 .fp8e4m3) (harg14 : arg14.IsWhole) (arg15 : Memref sig .tc .vmem S8960x1536 .bf16) (harg15 : arg15.IsWhole) (arg16 : Memref sig .tc .vmem S256x8960 .bf16) (harg16 : arg16.IsWhole) (arg17 : Memref sig .tc .vmem S2x8x1536 .f32) (harg17 : arg17.IsWhole) (arg18 : DmaSems sig S_) (k0_h1 : k0_cond1 i = 1#1) (X_arg2 : BufTy.Contents (Elt Ideal) arg2.view.ty) (X_arg14 : BufTy.Contents (Elt Ideal) arg14.view.ty)  (w : Vec Ideal S8960x1536 .fp8e4m3) (ws : Vec Ideal S70x12 .f32)
    (h2 : arg2.view.read (Elt Ideal) X_arg2 = ws) (h14 : arg14.view.read (Elt Ideal) X_arg14 = w) :
    ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 n, ∀ x : p.1.shape.Idx, p.2 x = wd w ws (p.1.emb x)
  | 0, _, p, hp, _ => absurd hp List.not_mem_nil
  | n + 1, hn, p, hp, x => by
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 ⟨n, hn⟩
    rcases List.mem_append.mp (e ▸ hp) with hp | hp
    · exact (trip_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 ⟨n, hn⟩ w ws h2 h14).mem p hp x
    · exact loop_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 w ws h2 h14 n (Nat.le_of_succ_le hn) p hp x

/-- The loop's stores leave the dequantized weights. -/
theorem loop_canon  (𝒱 : Variants) (c : Dev nD) (bd : Option 𝒱.V) (i : grid0.Coords) (arg1 : Memref sig .tc .smem S3 .i32) (harg1 : arg1.IsWhole) (arg2 : Memref sig .tc .smem S70x12 .f32) (harg2 : arg2.IsWhole) (arg3 : Memref sig .tc .vmem S256x1536 .bf16) (harg3 : arg3.IsWhole) (arg4 : Memref sig .tc .vmem S256x8960 .fp8e4m3) (harg4 : arg4.IsWhole) (arg5 : Memref sig .tc .vmem S256x70 .f32) (harg5 : arg5.IsWhole) (arg6 : Memref sig .tc .hbm S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S256x1536 .f32) (harg10 : arg10.IsWhole) (arg11 : Memref sig .tc .vmem S2x1536 .f32) (harg11 : arg11.IsWhole) (arg12 : Memref sig .tc .vmem S2x1536 .i8) (harg12 : arg12.IsWhole) (arg13 : Memref sig .tc .smem S2 .f32) (harg13 : arg13.IsWhole) (arg14 : Memref sig .tc .vmem S8960x1536 .fp8e4m3) (harg14 : arg14.IsWhole) (arg15 : Memref sig .tc .vmem S8960x1536 .bf16) (harg15 : arg15.IsWhole) (arg16 : Memref sig .tc .vmem S256x8960 .bf16) (harg16 : arg16.IsWhole) (arg17 : Memref sig .tc .vmem S2x8x1536 .f32) (harg17 : arg17.IsWhole) (arg18 : DmaSems sig S_) (k0_h1 : k0_cond1 i = 1#1) (X_arg2 : BufTy.Contents (Elt Ideal) arg2.view.ty) (X_arg14 : BufTy.Contents (Elt Ideal) arg14.view.ty)  (w : Vec Ideal S8960x1536 .fp8e4m3) (ws : Vec Ideal S70x12 .f32)
    (h2 : arg2.view.read (Elt Ideal) X_arg2 = ws) (h14 : arg14.view.read (Elt Ideal) X_arg14 = w) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 k0_t1_loop.trips) = wd w ws := by
  funext y
  exact View.canon_apply_of_pieces (wd w ws) _ (loop_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 w ws h2 h14 _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 k0_t1_loop.trips) S128x128.size (by sl_kernel_rfl) y)

/-- Read back whole, the loop's stores are the dequantized weights. -/
theorem loop_read  (𝒱 : Variants) (c : Dev nD) (bd : Option 𝒱.V) (i : grid0.Coords) (arg1 : Memref sig .tc .smem S3 .i32) (harg1 : arg1.IsWhole) (arg2 : Memref sig .tc .smem S70x12 .f32) (harg2 : arg2.IsWhole) (arg3 : Memref sig .tc .vmem S256x1536 .bf16) (harg3 : arg3.IsWhole) (arg4 : Memref sig .tc .vmem S256x8960 .fp8e4m3) (harg4 : arg4.IsWhole) (arg5 : Memref sig .tc .vmem S256x70 .f32) (harg5 : arg5.IsWhole) (arg6 : Memref sig .tc .hbm S8960x1536 .fp8e4m3) (harg6 : arg6.IsWhole) (arg7 : Memref sig .tc .vmem S1x1536 .f32) (harg7 : arg7.IsWhole) (arg8 : Memref sig .tc .vmem S1x1536 .f32) (harg8 : arg8.IsWhole) (arg9 : Memref sig .tc .vmem S1x1536 .f32) (harg9 : arg9.IsWhole) (arg10 : Memref sig .tc .vmem S256x1536 .f32) (harg10 : arg10.IsWhole) (arg11 : Memref sig .tc .vmem S2x1536 .f32) (harg11 : arg11.IsWhole) (arg12 : Memref sig .tc .vmem S2x1536 .i8) (harg12 : arg12.IsWhole) (arg13 : Memref sig .tc .smem S2 .f32) (harg13 : arg13.IsWhole) (arg14 : Memref sig .tc .vmem S8960x1536 .fp8e4m3) (harg14 : arg14.IsWhole) (arg15 : Memref sig .tc .vmem S8960x1536 .bf16) (harg15 : arg15.IsWhole) (arg16 : Memref sig .tc .vmem S256x8960 .bf16) (harg16 : arg16.IsWhole) (arg17 : Memref sig .tc .vmem S2x8x1536 .f32) (harg17 : arg17.IsWhole) (arg18 : DmaSems sig S_) (k0_h1 : k0_cond1 i = 1#1) (X_arg2 : BufTy.Contents (Elt Ideal) arg2.view.ty) (X_arg14 : BufTy.Contents (Elt Ideal) arg14.view.ty)  (w : Vec Ideal S8960x1536 .fp8e4m3) (ws : Vec Ideal S70x12 .f32)
    (h2 : arg2.view.read (Elt Ideal) X_arg2 = ws) (h14 : arg14.view.read (Elt Ideal) X_arg14 = w)
    {κ : Kind} {sp : Space} (v : View sig κ sp S8960x1536 .bf16)
    (hb : ∀ a, (![0, 0] : Fin 2 → ℕ) a + S8960x1536.size a ≤ S8960x1536.size a) :
    v.readCov (Val := Elt Ideal) (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 k0_t1_loop.trips) (Rect.unit (s := S8960x1536) ![0, 0] S8960x1536.size hb).toLoadRect
      = wd w ws := by
  rw [View.readCov_eq_canon', loop_canon 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 k0_h1 X_arg2 X_arg14 w ws h2 h14]
  funext y
  refine congrArg (wd w ws) (funext fun a => Fin.ext ?_)
  fin_cases a
  · show 0 + 1 * (y 0).val = (y 0).val; omega
  · show 0 + 1 * (y 1).val = (y 1).val; omega

end KernelWeights
-- ==== Proof.KernelBlock.lean ====
module

public import Idealize.ShloMosaic.Lib.Pipeline.ValueKit
public import Idealize.ShloMosaic.Lib.Pipeline.ReadBack
public import proofs.«01_k».proof.Proof.Gen.KernelIdeal.Value
public import proofs.«01_k».proof.Proof.KernelPure
public import proofs.«01_k».proof.Proof.KernelHd
public import proofs.«01_k».proof.Proof.KernelWeights

/-! # What one grid point computes

What a grid point leaves in each output and scratch, as a function of its input blocks and of what the
scratches held before it. The first point (case A) fills the weights scratch and clears the partial
sums; the last (case C) writes the means, codes and scales; the others (case B) do neither. -/

@[expose] public section

set_option maxRecDepth 16384
noncomputable section
namespace KernelBlock
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)

/-- Word `k` of the segment boundaries. -/
abbrev cu (c : Dev nD) (t : Fin cfg0.N) (k : Fin 3) : Elt Ideal .i32 := iblk m c 0 t (ix1 k)

/-- The packed rows of the block at point `t`, over the dequantized weights `W`. -/
def Z (c : Dev nD) (t : Fin cfg0.N) (W : Vec Ideal S8960x1536 .bf16) : Vec Ideal S256x1536 .f32 :=
  k0_pay115 (BitVec.ofNat 32 t.val)
    (k0_pay112 (KernelHd.hd (iblk m c 3 t) (iblk m c 4 t)) W (iblk m c 2 t) (iblk m c 5 t))
    (k0_pay113 (KernelHd.hd (iblk m c 3 t) (iblk m c 4 t)) W (iblk m c 2 t) (iblk m c 5 t))
    (iblk m c 6 t) (iblk m c 7 t) (cu m c t 2)

/-- Plane `b` of the partial sums. -/
def row (S : Vec Ideal S2x8x1536 .f32) (b : Fin 2) : Vec Ideal S1x8x1536 .f32 := fun j => S (ix3 b (j 1) (j 2))

/-- The partial sums after point `t`: each row `q` of plane `b` of the sums `S` before it, plus the
rows `q, q + 8, …` of the block that lie in segment `b`. -/
def sums (c : Dev nD) (t : Fin cfg0.N) (W : Vec Ideal S8960x1536 .bf16) (S : Vec Ideal S2x8x1536 .f32) :
    Vec Ideal S2x8x1536 .f32 := fun y =>
  (show EReal from S (ix3 (y 0) (y 1) (y 2))) + ∑ k : Fin 32,
    Spec.segRow (y 0) (Z m c t W (ix2 ⟨k.val * 8 + (y 1).val, by have := k.isLt; have : (y 1).val < 8 := (y 1).isLt; omega⟩ (y 2)))
      (t.val * 256 + (k.val * 8 + (y 1).val)) (cu m c t 1)

/-- The grid coordinate of point `t` is `t`. -/
theorem coord (t : Fin cfg0.N) : BitVec.ofNat 32 ((grid0.coords t 0).val) = BitVec.ofNat 32 t.val :=
  (by decide +kernel : ∀ t : Fin grid0.N, BitVec.ofNat 32 ((grid0.coords t 0).val) = BitVec.ofNat 32 t.val) t

/-- A point's packed rows, from operands equal to the block's. -/
theorem Z_congr (c : Dev nD) (t : Fin cfg0.N) {A : BitVec 32} {H : Vec Ideal S256x8960 .bf16} {W W' : Vec Ideal S8960x1536 .bf16}
    {c2 : Elt Ideal .i32} (eA : A = BitVec.ofNat 32 t.val) (eH : H = KernelHd.hd (iblk m c 3 t) (iblk m c 4 t)) (eW : W = W')
    (ec2 : c2 = cu m c t 2) :
    k0_pay115 A (k0_pay112 H W (iblk m c 2 t) (iblk m c 5 t)) (k0_pay113 H W (iblk m c 2 t) (iblk m c 5 t)) (iblk m c 6 t) (iblk m c 7 t) c2
      = Z m c t W' := by
  subst eA eH eW ec2; rfl

/-- The stored plane 0 of the partial sums, from operands equal to the block's. -/
theorem S0_congr (c : Dev nD) (t : Fin cfg0.N) {A : BitVec 32} {H : Vec Ideal S256x8960 .bf16} {W W' : Vec Ideal S8960x1536 .bf16}
    {c2 c1 : Elt Ideal .i32} {s : Vec Ideal S1x8x1536 .f32} {S : Vec Ideal S2x8x1536 .f32}
    (eA : A = BitVec.ofNat 32 t.val) (eH : H = KernelHd.hd (iblk m c 3 t) (iblk m c 4 t)) (eW : W = W')
    (ec2 : c2 = cu m c t 2) (ec1 : c1 = cu m c t 1) (es : s = row S 0) :
    k0_pay117 A (k0_pay112 H W (iblk m c 2 t) (iblk m c 5 t)) (k0_pay113 H W (iblk m c 2 t) (iblk m c 5 t)) (iblk m c 6 t) (iblk m c 7 t) c2 c1 s
      = row (sums m c t W' S) 0 := by
  subst eA eH eW ec2 ec1 es
  funext y
  obtain ⟨q, l, rfl⟩ : ∃ (q : Fin 8) (l : Fin 1536), y = (ix3 0 q l : S1x8x1536.Idx) := ⟨y 1, y 2, by
    rw [eq_ix3 y]; congr 1; exact Subsingleton.elim (α := Fin 1) _ _⟩
  exact KernelPure.pay117_at ..

/-- The stored plane 1 of the partial sums, from operands equal to the block's. -/
theorem S1_congr (c : Dev nD) (t : Fin cfg0.N) {A : BitVec 32} {H : Vec Ideal S256x8960 .bf16} {W W' : Vec Ideal S8960x1536 .bf16}
    {c2 c1 : Elt Ideal .i32} {s : Vec Ideal S1x8x1536 .f32} {S : Vec Ideal S2x8x1536 .f32}
    (eA : A = BitVec.ofNat 32 t.val) (eH : H = KernelHd.hd (iblk m c 3 t) (iblk m c 4 t)) (eW : W = W')
    (ec2 : c2 = cu m c t 2) (ec1 : c1 = cu m c t 1) (es : s = row S 1) :
    k0_pay1 (k0_pay115 A (k0_pay112 H W (iblk m c 2 t) (iblk m c 5 t)) (k0_pay113 H W (iblk m c 2 t) (iblk m c 5 t)) (iblk m c 6 t) (iblk m c 7 t) c2)
        (k0_pay118 A c1) (k0_pay119 (F := Ideal)) s
      = row (sums m c t W' S) 1 := by
  subst eA eH eW ec2 ec1 es
  funext y
  obtain ⟨q, l, rfl⟩ : ∃ (q : Fin 8) (l : Fin 1536), y = (ix3 0 q l : S1x8x1536.Idx) := ⟨y 1, y 2, by
    rw [eq_ix3 y]; congr 1; exact Subsingleton.elim (α := Fin 1) _ _⟩
  exact KernelPure.pay1_at ..

/-- Reading one word of the segment boundaries. -/
theorem ld_cu (c : Dev nD) (t : Fin cfg0.N) (k : Fin 3) (hb : ∀ a, (![k.val] : Fin 1 → ℕ) a + S1.size a ≤ S3.size a)
   (hn : (Rect.unit (s := S3) ![k.val] S1.size hb).toLoadRect.shape.numel = 1) :
    View.ld (Val := Elt Ideal) (S := S3) (e' := .i32) (iblk m c 0 t) (Rect.unit (s := S3) ![k.val] S1.size hb) (Shape.Idx.first (by rw [hn]; exact Nat.one_pos)) = cu m c t k := by
  refine congrArg (iblk m c 0 t) (funext fun a => Fin.ext ?_)
  have hone : ∀ (f : S1.Idx) a, (f a).val = 0 := fun f a => by
    have h : (f a).val < S1.size a := (f a).isLt
    fin_cases a
    exact Nat.lt_one_iff.mp h
  fin_cases a
  exact (congrArg (fun z => k.val + 1 * z) (hone _ 0)).trans (by show k.val + 1 * 0 = k.val; omega)

/-- Reading one plane of the partial sums. -/
theorem ld_row (S : Vec Ideal S2x8x1536 .f32) (b : Fin 2) (hb : ∀ a, (![b.val, 0, 0] : Fin 3 → ℕ) a + S1x8x1536.size a ≤ S2x8x1536.size a) :
    View.ld (Val := Elt Ideal) (S := S2x8x1536) (e' := .f32) S (Rect.unit (s := S2x8x1536) ![b.val, 0, 0] S1x8x1536.size hb) = row S b := by
  funext y
  refine congrArg S (funext fun a => Fin.ext ?_)
  have h0 : (y 0).val < 1 := (y 0).isLt
  fin_cases a
  · show b.val + 1 * (y 0).val = b.val; omega
  · show 0 + 1 * (y 1).val = (y 1).val; omega
  · show 0 + 1 * (y 2).val = (y 2).val; omega

/-- The two planes of `S` stored in turn leave `S`, whatever was stored before. -/
theorem canon_planes (P1 P0 : Vec Ideal S1x8x1536 .f32) (S : Vec Ideal S2x8x1536 .f32) (rest : List (View.Piece (Elt Ideal) S2x8x1536 .f32))
    (hb1 : ∀ a, (![1, 0, 0] : Fin 3 → ℕ) a + S1x8x1536.size a ≤ S2x8x1536.size a)
    (hb0 : ∀ a, (![0, 0, 0] : Fin 3 → ℕ) a + S1x8x1536.size a ≤ S2x8x1536.size a)
    (h1 : P1 = row S 1) (h0 : P0 = row S 0) (y : S2x8x1536.Idx) :
    View.canon (Val := Elt Ideal) ((⟨Rect.unit (s := S2x8x1536) ![1, 0, 0] S1x8x1536.size hb1, P1⟩ : View.Piece (Elt Ideal) S2x8x1536 .f32) :: ⟨Rect.unit (s := S2x8x1536) ![0, 0, 0] S1x8x1536.size hb0, P0⟩ :: rest) y = S y := by
  subst h1 h0
  refine View.canon_append_of_piecesOf (Val := Elt Ideal) S rest [⟨Rect.unit (s := S2x8x1536) ![1, 0, 0] S1x8x1536.size hb1, row S 1⟩, ⟨Rect.unit (s := S2x8x1536) ![0, 0, 0] S1x8x1536.size hb0, row S 0⟩] ?_ y ?_
  · exact ⟨fun x => (congrFun (ld_row S 1 hb1) x).symm, fun x => (congrFun (ld_row S 0 hb0) x).symm, trivial⟩
  · have g0 : (y 0).val < 2 := (y 0).isLt
    have g1 : (y 1).val < 8 := (y 1).isLt
    have g2 : (y 2).val < 1536 := (y 2).isLt
    rcases (by omega : (y 0).val = 1 ∨ (y 0).val = 0) with h | h
    · refine ⟨_, List.mem_cons_self, (Rect.mem_set_unit (inb := hb1)).mpr fun a => ?_⟩
      fin_cases a
      · show 1 ≤ (y 0).val ∧ (y 0).val < 1 + 1; omega
      · show 0 ≤ (y 1).val ∧ (y 1).val < 0 + 8; omega
      · show 0 ≤ (y 2).val ∧ (y 2).val < 0 + 1536; omega
    · refine ⟨_, List.mem_cons_of_mem _ List.mem_cons_self, (Rect.mem_set_unit (inb := hb0)).mpr fun a => ?_⟩
      fin_cases a
      · show 0 ≤ (y 0).val ∧ (y 0).val < 0 + 1; omega
      · show 0 ≤ (y 1).val ∧ (y 1).val < 0 + 8; omega
      · show 0 ≤ (y 2).val ∧ (y 2).val < 0 + 1536; omega

/-- The scratches before point `t`. -/
abbrev prev (c : Dev nD) (t : Fin cfg0.N) := outsAt0 m c (t.val - 1) (Nat.lt_of_le_of_lt (Nat.sub_le _ _) t.isLt)

/-- A middle point's packed rows. -/
theorem zB (c : Dev nD) (t : Fin cfg0.N) (h0 : ¬ t.val % 8 = 0) (h1 : ¬ t.val % 8 = 7) :
    (outsAt0 m c t.val t.isLt).1 = Z m c t (prev m c t).2.2.2.2.1 := by
  rw [outsAt0_B m c t h0 h1]
  dsimp only
  frame_out
  exact Z_congr m c t (coord t) (KernelHd.read_pieces _ _ _ _) (read_unread_whole _ _ _) (ld_cu m c t 2 _ rfl)

/-- The last point's packed rows. -/
theorem zC (c : Dev nD) (t : Fin cfg0.N) (h0 : ¬ t.val % 8 = 0) (h1 : t.val % 8 = 7) :
    (outsAt0 m c t.val t.isLt).1 = Z m c t (prev m c t).2.2.2.2.1 := by
  rw [outsAt0_C m c t h0 h1]
  dsimp only
  frame_out
  exact Z_congr m c t (coord t) (KernelHd.read_pieces _ _ _ _) (read_unread_whole _ _ _) (ld_cu m c t 2 _ rfl)

/-- The first point's packed rows, over the weights it has just dequantized. -/
theorem zA (c : Dev nD) (t : Fin cfg0.N) (h0 : t.val % 8 = 0) (h1 : ¬ t.val % 8 = 7) :
    (outsAt0 m c t.val t.isLt).1 = Z m c t (KernelWeights.wd (V m c main_arg3) (iblk m c 1 t)) := by
  rw [outsAt0_A m c t h0 h1]
  dsimp only
  frame_out
  refine Z_congr m c t (coord t) (KernelHd.read_pieces _ _ _ _) ?_ (ld_cu m c t 2 _ rfl)
  refine KernelWeights.loop_read (h2 := ?_) (h14 := ?_) ..
  · exact Memref.IsWhole.read_unread _ _
  · exact View.read_writes_whole _ _ _

/-- A middle point's step on the partial sums. -/
theorem sB (c : Dev nD) (t : Fin cfg0.N) (h0 : ¬ t.val % 8 = 0) (h1 : ¬ t.val % 8 = 7) :
    (outsAt0 m c t.val t.isLt).2.2.2.2.2 = sums m c t (prev m c t).2.2.2.2.1 (prev m c t).2.2.2.2.2 := by
  rw [outsAt0_B m c t h0 h1]
  dsimp only
  frame_open
  simp (disch := decide) only [↓ View.readCov_skip, ↓ View.readCov_cons_toLoadRect, ↓ View.readCov_fill]
  frame_out
  funext y
  refine canon_planes _ _ _ _ _ _ ?_ ?_ y
  · exact S1_congr m c t (coord t) (KernelHd.read_pieces _ _ _ _) (read_unread_whole _ _ _) (ld_cu m c t 2 _ rfl) (ld_cu m c t 1 _ rfl)
      ((ld_row _ 1 _).trans (congrArg (fun S => row S 1) (read_unread_whole _ _ _)))
  · exact S0_congr m c t (coord t) (KernelHd.read_pieces _ _ _ _) (read_unread_whole _ _ _) (ld_cu m c t 2 _ rfl) (ld_cu m c t 1 _ rfl)
      ((ld_row _ 0 _).trans (congrArg (fun S => row S 0) (read_unread_whole _ _ _)))

/-- The last point's step on the partial sums. -/
theorem sC (c : Dev nD) (t : Fin cfg0.N) (h0 : ¬ t.val % 8 = 0) (h1 : t.val % 8 = 7) :
    (outsAt0 m c t.val t.isLt).2.2.2.2.2 = sums m c t (prev m c t).2.2.2.2.1 (prev m c t).2.2.2.2.2 := by
  rw [outsAt0_C m c t h0 h1]
  dsimp only
  frame_open
  simp (disch := decide) only [↓ View.readCov_skip, ↓ View.readCov_cons_toLoadRect, ↓ View.readCov_fill]
  frame_out
  funext y
  refine canon_planes _ _ _ _ _ _ ?_ ?_ y
  · exact S1_congr m c t (coord t) (KernelHd.read_pieces _ _ _ _) (read_unread_whole _ _ _) (ld_cu m c t 2 _ rfl) (ld_cu m c t 1 _ rfl)
      ((ld_row _ 1 _).trans (congrArg (fun S => row S 1) (read_unread_whole _ _ _)))
  · exact S0_congr m c t (coord t) (KernelHd.read_pieces _ _ _ _) (read_unread_whole _ _ _) (ld_cu m c t 2 _ rfl) (ld_cu m c t 1 _ rfl)
      ((ld_row _ 0 _).trans (congrArg (fun S => row S 0) (read_unread_whole _ _ _)))

/-- The first point's partial sums, from cleared ones. -/
theorem sA (c : Dev nD) (t : Fin cfg0.N) (h0 : t.val % 8 = 0) (h1 : ¬ t.val % 8 = 7) :
    (outsAt0 m c t.val t.isLt).2.2.2.2.2 = sums m c t (KernelWeights.wd (V m c main_arg3) (iblk m c 1 t)) (k0_pay25 (F := Ideal)) := by
  rw [outsAt0_A m c t h0 h1]
  dsimp only
  frame_open
  simp (disch := decide) only [↓ View.readCov_skip, ↓ View.readCov_cons_toLoadRect, ↓ View.readCov_fill]
  frame_out
  funext y
  refine canon_planes _ _ _ _ _ _ ?_ ?_ y
  · exact S1_congr m c t (coord t) (KernelHd.read_pieces _ _ _ _)
      (KernelWeights.loop_read (h2 := Memref.IsWhole.read_unread _ _) (h14 := View.read_writes_whole _ _ _) ..)
      (ld_cu m c t 2 _ rfl) (ld_cu m c t 1 _ rfl) (ld_row _ 1 _)
  · exact S0_congr m c t (coord t) (KernelHd.read_pieces _ _ _ _)
      (KernelWeights.loop_read (h2 := Memref.IsWhole.read_unread _ _) (h14 := View.read_writes_whole _ _ _) ..)
      (ld_cu m c t 2 _ rfl) (ld_cu m c t 1 _ rfl) (ld_row _ 0 _)

/-- The first point leaves the dequantized weights in their scratch. -/
theorem wA (c : Dev nD) (t : Fin cfg0.N) (h0 : t.val % 8 = 0) (h1 : ¬ t.val % 8 = 7) :
    (outsAt0 m c t.val t.isLt).2.2.2.2.1 = KernelWeights.wd (V m c main_arg3) (iblk m c 1 t) := by
  rw [outsAt0_A m c t h0 h1]
  dsimp only
  frame_out
  funext y
  exact congrFun (KernelWeights.loop_canon (h2 := Memref.IsWhole.read_unread _ _) (h14 := View.read_writes_whole _ _ _) ..) y

/-- A middle point keeps the weights scratch. -/
theorem wB (c : Dev nD) (t : Fin cfg0.N) (h0 : ¬ t.val % 8 = 0) (h1 : ¬ t.val % 8 = 7) :
    (outsAt0 m c t.val t.isLt).2.2.2.2.1 = (prev m c t).2.2.2.2.1 := by
  rw [outsAt0_B m c t h0 h1]; rfl

/-- The last point keeps the weights scratch. -/
theorem wC (c : Dev nD) (t : Fin cfg0.N) (h0 : ¬ t.val % 8 = 0) (h1 : t.val % 8 = 7) :
    (outsAt0 m c t.val t.isLt).2.2.2.2.1 = (prev m c t).2.2.2.2.1 := by
  rw [outsAt0_C m c t h0 h1]; rfl

/-- The stored codes, from equal operands. -/
theorem codes_congr {c2 c2' c1 c1' d1 c0 c0' : Elt Ideal .i32} {s0 s0' s1 s1' : Vec Ideal S1x8x1536 .f32}
    (e2 : c2 = c2') (e1 : c1 = c1') (e1' : d1 = c1') (e0 : c0 = c0') (es0 : s0 = s0') (es1 : s1 = s1') :
    k0_pay24 (k0_pay18 c1 c0 s0) c2 d1 s1 = k0_pay24 (k0_pay18 c1' c0' s0') c2' c1' s1' := by
  subst e2 e1 e1' e0 es0 es1; rfl

/-- A stored mean, from equal operands. -/
theorem mean0_congr {c1 c1' c0 c0' : Elt Ideal .i32} {s s' : Vec Ideal S1x8x1536 .f32} (e1 : c1 = c1') (e0 : c0 = c0') (es : s = s') :
    k0_pay15 c1 c0 s = k0_pay15 c1' c0' s' := by
  subst e1 e0 es; rfl

/-- A stored scale, from equal operands. -/
theorem scale0_congr {c1 c1' c0 c0' : Elt Ideal .i32} {s s' : Vec Ideal S1x8x1536 .f32} (e1 : c1 = c1') (e0 : c0 = c0') (es : s = s') :
    k0_pay19 c1 c0 s = k0_pay19 c1' c0' s' := by
  subst e1 e0 es; rfl

/-- The two rows of the means, stored in turn. -/
theorem canon_rows (P1 P0 : Vec Ideal S1x1536 .f32) (G : Fin 2 → Fin 1536 → EReal)
    (hb1 : ∀ a, (![1, 0] : Fin 2 → ℕ) a + S1x1536.size a ≤ S2x1536.size a)
    (hb0 : ∀ a, (![0, 0] : Fin 2 → ℕ) a + S1x1536.size a ≤ S2x1536.size a)
    (h1 : ∀ l, P1 (ix2 0 l) = G 1 l) (h0 : ∀ l, P0 (ix2 0 l) = G 0 l) (y : S2x1536.Idx) :
    View.canon (Val := Elt Ideal) [(⟨Rect.unit (s := S2x1536) ![1, 0] S1x1536.size hb1, P1⟩ : View.Piece (Elt Ideal) S2x1536 .f32),
      ⟨Rect.unit (s := S2x1536) ![0, 0] S1x1536.size hb0, P0⟩] y = G (y 0) (y 1) := by
  refine View.canon_apply_of_pieces (Val := Elt Ideal) (show S2x1536.Idx → Elt Ideal .f32 from fun y => G (y 0) (y 1)) _ ?_ y ?_
  · have e : ∀ x : S1x1536.Idx, x = ix2 0 (x 1) := fun x => by
      rw [eq_ix2 x]; congr 1; exact Subsingleton.elim (α := Fin 1) _ _
    refine View.PiecesOf.mem ⟨fun (x : S1x1536.Idx) => ?_, fun (x : S1x1536.Idx) => ?_, trivial⟩
    · rw [e x]; refine (h1 (x 1)).trans ?_
      refine congrArg₂ G (Fin.ext ?_) (Fin.ext ?_)
      · rfl
      · show (x 1).val = 0 + 1 * (x 1).val; omega
    · rw [e x]; refine (h0 (x 1)).trans ?_
      refine congrArg₂ G (Fin.ext ?_) (Fin.ext ?_)
      · rfl
      · show (x 1).val = 0 + 1 * (x 1).val; omega
  · have g0 : (y 0).val < 2 := (y 0).isLt
    have g1 : (y 1).val < 1536 := (y 1).isLt
    rcases (by omega : (y 0).val = 1 ∨ (y 0).val = 0) with h | h
    · refine ⟨_, List.mem_cons_self, (Rect.mem_set_unit (inb := hb1)).mpr fun a => ?_⟩
      fin_cases a
      · show 1 ≤ (y 0).val ∧ (y 0).val < 1 + 1; omega
      · show 0 ≤ (y 1).val ∧ (y 1).val < 0 + 1536; omega
    · refine ⟨_, List.mem_cons_of_mem _ List.mem_cons_self, (Rect.mem_set_unit (inb := hb0)).mpr fun a => ?_⟩
      fin_cases a
      · show 0 ≤ (y 0).val ∧ (y 0).val < 0 + 1; omega
      · show 0 ≤ (y 1).val ∧ (y 1).val < 0 + 1536; omega

/-- The two scales, stored in turn. -/
theorem canon_cells (P1 P0 : EReal) (G : Fin 2 → EReal)
    (hb1 : ∀ a, (![1] : Fin 1 → ℕ) a + S1.size a ≤ S2.size a)
    (hb0 : ∀ a, (![0] : Fin 1 → ℕ) a + S1.size a ≤ S2.size a)
    (h1 : P1 = G 1) (h0 : P0 = G 0) (y : S2.Idx) :
    View.canon (Val := Elt Ideal) [(⟨Rect.unit (s := S2) ![1] S1.size hb1, fun _ => P1⟩ : View.Piece (Elt Ideal) S2 .f32),
      ⟨Rect.unit (s := S2) ![0] S1.size hb0, fun _ => P0⟩] y = G (y 0) := by
  subst h1 h0
  refine View.canon_apply_of_pieces (Val := Elt Ideal) (show S2.Idx → Elt Ideal .f32 from fun y => G (y 0)) _ ?_ y ?_
  · refine View.PiecesOf.mem ⟨fun (x : S1.Idx) => ?_, fun (x : S1.Idx) => ?_, trivial⟩
    · have h : (x 0).val < 1 := (x 0).isLt
      refine congrArg G (Fin.ext ?_)
      show 1 = 1 + 1 * (x 0).val; omega
    · have h : (x 0).val < 1 := (x 0).isLt
      refine congrArg G (Fin.ext ?_)
      show 0 = 0 + 1 * (x 0).val; omega
  · have g0 : (y 0).val < 2 := (y 0).isLt
    rcases (by omega : (y 0).val = 1 ∨ (y 0).val = 0) with h | h
    · refine ⟨_, List.mem_cons_self, (Rect.mem_set_unit (inb := hb1)).mpr fun a => ?_⟩
      fin_cases a
      show 1 ≤ (y 0).val ∧ (y 0).val < 1 + 1; omega
    · refine ⟨_, List.mem_cons_of_mem _ List.mem_cons_self, (Rect.mem_set_unit (inb := hb0)).mpr fun a => ?_⟩
      fin_cases a
      show 0 ≤ (y 0).val ∧ (y 0).val < 0 + 1; omega

/-- The codes the last point writes, from the partial sums `S` after it. -/
theorem codesC (c : Dev nD) (t : Fin cfg0.N) (h0 : ¬ t.val % 8 = 0) (h1 : t.val % 8 = 7) (S : Vec Ideal S2x8x1536 .f32)
    (hS : S = sums m c t (prev m c t).2.2.2.2.1 (prev m c t).2.2.2.2.2) :
    (outsAt0 m c t.val t.isLt).2.2.1 =
      k0_pay24 (k0_pay18 (cu m c t 1) (cu m c t 0) (row S 0)) (cu m c t 2) (cu m c t 1) (row S 1) := by
  subst hS
  rw [outsAt0_C m c t h0 h1]
  dsimp only
  frame_open
  simp (disch := decide) only [↓ View.readCov_skip, ↓ View.readCov_cons_toLoadRect, ↓ View.readCov_fill]
  frame_out
  exact codes_congr (ld_cu m c t 2 _ rfl) (ld_cu m c t 1 _ rfl) (ld_cu m c t 1 _ rfl) (ld_cu m c t 0 _ rfl)
    (S0_congr m c t (coord t) (KernelHd.read_pieces _ _ _ _) (read_unread_whole _ _ _) (ld_cu m c t 2 _ rfl) (ld_cu m c t 1 _ rfl)
      ((ld_row _ 0 _).trans (congrArg (fun S => row S 0) (read_unread_whole _ _ _))))
    (S1_congr m c t (coord t) (KernelHd.read_pieces _ _ _ _) (read_unread_whole _ _ _) (ld_cu m c t 2 _ rfl) (ld_cu m c t 1 _ rfl)
      ((ld_row _ 1 _).trans (congrArg (fun S => row S 1) (read_unread_whole _ _ _))))

/-- The means the last point writes, from the partial sums `S` after it. -/
theorem meansC (c : Dev nD) (t : Fin cfg0.N) (h0 : ¬ t.val % 8 = 0) (h1 : t.val % 8 = 7) (S : Vec Ideal S2x8x1536 .f32)
    (hS : S = sums m c t (prev m c t).2.2.2.2.1 (prev m c t).2.2.2.2.2) (y : S2x1536.Idx) :
    (outsAt0 m c t.val t.isLt).2.1 y =
      k0_pay15 (cu m c t ⟨(y 0).val + 1, Nat.succ_lt_succ (y 0).isLt⟩) (cu m c t ⟨(y 0).val, Nat.lt_succ_of_lt (y 0).isLt⟩) (row S (y 0)) (ix2 0 (y 1)) := by
  subst hS
  rw [outsAt0_C m c t h0 h1]
  dsimp only
  frame_open
  simp (disch := decide) only [↓ View.readCov_skip, ↓ View.readCov_cons_toLoadRect, ↓ View.readCov_fill]
  frame_out
  refine canon_rows _ _ (fun b l => k0_pay15 (cu m c t ⟨b.val + 1, Nat.succ_lt_succ b.isLt⟩) (cu m c t ⟨b.val, Nat.lt_succ_of_lt b.isLt⟩) (row _ b) (ix2 0 l)) _ _ ?_ ?_ y
  · intro l
    refine congrFun (a := ix2 0 l) ?_
    exact mean0_congr (ld_cu m c t 2 _ rfl) (ld_cu m c t 1 _ rfl)
     (S1_congr m c t (coord t) (KernelHd.read_pieces _ _ _ _) (read_unread_whole _ _ _) (ld_cu m c t 2 _ rfl) (ld_cu m c t 1 _ rfl)
      ((ld_row _ 1 _).trans (congrArg (fun S => row S 1) (read_unread_whole _ _ _))))
  · intro l
    refine congrFun (a := ix2 0 l) ?_
    exact mean0_congr (ld_cu m c t 1 _ rfl) (ld_cu m c t 0 _ rfl)
     (S0_congr m c t (coord t) (KernelHd.read_pieces _ _ _ _) (read_unread_whole _ _ _) (ld_cu m c t 2 _ rfl) (ld_cu m c t 1 _ rfl)
      ((ld_row _ 0 _).trans (congrArg (fun S => row S 0) (read_unread_whole _ _ _))))

/-- The scales the last point writes, from the partial sums `S` after it. -/
theorem scalesC (c : Dev nD) (t : Fin cfg0.N) (h0 : ¬ t.val % 8 = 0) (h1 : t.val % 8 = 7) (S : Vec Ideal S2x8x1536 .f32)
    (hS : S = sums m c t (prev m c t).2.2.2.2.1 (prev m c t).2.2.2.2.2) (y : S2.Idx) :
    (outsAt0 m c t.val t.isLt).2.2.2.1 y =
      k0_pay19 (cu m c t ⟨(y 0).val + 1, Nat.succ_lt_succ (y 0).isLt⟩) (cu m c t ⟨(y 0).val, Nat.lt_succ_of_lt (y 0).isLt⟩) (row S (y 0)) := by
  subst hS
  rw [outsAt0_C m c t h0 h1]
  dsimp only
  frame_open
  simp (disch := decide) only [↓ View.readCov_skip, ↓ View.readCov_cons_toLoadRect, ↓ View.readCov_fill]
  frame_out
  refine canon_cells _ _ (fun b => k0_pay19 (cu m c t ⟨b.val + 1, Nat.succ_lt_succ b.isLt⟩) (cu m c t ⟨b.val, Nat.lt_succ_of_lt b.isLt⟩) (row _ b)) _ _ ?_ ?_ y
  · exact scale0_congr (ld_cu m c t 2 _ rfl) (ld_cu m c t 1 _ rfl)
     (S1_congr m c t (coord t) (KernelHd.read_pieces _ _ _ _) (read_unread_whole _ _ _) (ld_cu m c t 2 _ rfl) (ld_cu m c t 1 _ rfl)
      ((ld_row _ 1 _).trans (congrArg (fun S => row S 1) (read_unread_whole _ _ _))))
  · exact scale0_congr (ld_cu m c t 1 _ rfl) (ld_cu m c t 0 _ rfl)
     (S0_congr m c t (coord t) (KernelHd.read_pieces _ _ _ _) (read_unread_whole _ _ _) (ld_cu m c t 2 _ rfl) (ld_cu m c t 1 _ rfl)
      ((ld_row _ 0 _).trans (congrArg (fun S => row S 0) (read_unread_whole _ _ _))))

end KernelBlock
-- ==== Proof.RefValue.lean ====
module

public import Idealize.ShloMosaic.Lib.Pointwise
public import Idealize.ShloMosaic.Lib.Pipeline.ValueKit
public import proofs.«01_k».proof.Proof.Gen.ReferenceIdeal.Value
public import proofs.«01_k».proof.Proof.Spec

/-! # What the reference computes

The four results of the reference, read at an index, are the row-by-row functions of `Spec`. -/

@[expose] public section

set_option maxRecDepth 16384
noncomputable section
namespace RefValue
open Idealize.ShloMosaic Idealize.ShloMosaic.TcCoe Idealize.SL.Sem
open Cert.ReferenceIdeal Cert.ReferenceIdeal.Gen

/-- The centred row: residual, projection and bias, minus the row's mean. -/
theorem pay4_at (h : Vec Ideal S2048x8960 .fp8e4m3) (hs : Vec Ideal S2048x70 .f32) (w : Vec Ideal S8960x1536 .fp8e4m3)
    (ws : Vec Ideal S70x12 .f32) (x : Vec Ideal S2048x1536 .bf16) (b : Vec Ideal S1536 .f32) (r : Fin 2048) (l : Fin 1536) :
    k0_pay4 (F := Ideal) h hs w ws x b (ix2 r l) =
      Spec.centre (Spec.yRow (fun l => x (ix2 r l)) (Spec.hdRow (fun k => h (ix2 r k)) fun j => hs (ix2 r j))
        (Spec.wdAt (fun k l => w (ix2 k l)) fun i j => ws (ix2 i j)) fun l => b (ix1 l)) l := by
  pointwise [k0_pay4, Spec.centre, Spec.yRow, Spec.hdRow, Spec.wdAt]
  all_goals rfl

/-- One over the row's standard deviation, in every column. -/
theorem pay5_at (h : Vec Ideal S2048x8960 .fp8e4m3) (hs : Vec Ideal S2048x70 .f32) (w : Vec Ideal S8960x1536 .fp8e4m3)
    (ws : Vec Ideal S70x12 .f32) (x : Vec Ideal S2048x1536 .bf16) (b : Vec Ideal S1536 .f32) (r : Fin 2048) (l : Fin 1536) :
    k0_pay5 (F := Ideal) h hs w ws x b (ix2 r l) =
      Spec.rstd (Spec.centre (Spec.yRow (fun l => x (ix2 r l)) (Spec.hdRow (fun k => h (ix2 r k)) fun j => hs (ix2 r j))
        (Spec.wdAt (fun k l => w (ix2 k l)) fun i j => ws (ix2 i j)) fun l => b (ix1 l))) := by
  pointwise [k0_pay5, Spec.rstd, pay4_at]
  all_goals rfl

/-- The packed rows: the normalised row where it is in use, else zero. -/
theorem pay7_at (cu : Vec Ideal S3 .i32) (c s : FVec Ideal S2048x1536 .f32) (g be : Vec Ideal S1536 .f32)
    (r : Fin 2048) (l : Fin 1536) :
    k0_pay7 (F := Ideal) cu c s g be (ix2 r l) =
      Spec.zRow (fun l => c (ix2 r l) * s (ix2 r l) * g (ix1 l) + be (ix1 l)) r.val (cu (ix1 2)) l := by
  pointwise [k0_pay7, k0_pay6, Spec.zRow, Spec.before]
  all_goals rfl

/-- The comparison "at or after" is the opposite bit of "before". -/
theorem sge_bit (q c : BitVec 32) :
    (IntOp.cmpi .slt q c = 1#1 ∧ IntOp.cmpi .sge q c = 0#1) ∨ (IntOp.cmpi .slt q c = 0#1 ∧ IntOp.cmpi .sge q c = 1#1) := by
  cases hlt : q.slt c <;> simp [IntOp.cmpi, hlt, BitVec.sle_eq_not_slt]

/-- An entry of the 0/1 segment matrix times a number: the number if the row is of that segment, else zero. A row is
    of segment 0 exactly if it lies before the boundary, else of segment 1. -/
theorem onehot_mul (q : ℕ) (c : BitVec 32) (b : Fin 2) (z : EReal) :
    FloatOps.sitofp (F := Ideal) .f32 (BitVec.setWidth 32 (IntOp.cmpi .eq
      (IntOp.minsi (Finset.fold IntOp.addi (0#32) (fun _ : Fin 1 => BitVec.setWidth 32 (IntOp.cmpi .sge (BitVec.ofNat 32 q) c)) Finset.univ) 1#32)
      (BitVec.ofNat 32 b.val))) * z = Spec.segRow b z q c := by
  have hf : Finset.fold IntOp.addi (0#32) (fun _ : Fin 1 => BitVec.setWidth 32 (IntOp.cmpi .sge (BitVec.ofNat 32 q) c)) Finset.univ
      = IntOp.addi (BitVec.setWidth 32 (IntOp.cmpi .sge (BitVec.ofNat 32 q) c)) 0#32 := rfl
  have h1 : FloatOps.sitofp (F := Ideal) .f32 1#32 = (1 : EReal) := by
    show ((((1#32 : BitVec 32).toInt : ℝ)) : EReal) = 1
    norm_num
  have h0 : FloatOps.sitofp (F := Ideal) .f32 0#32 = (0 : EReal) := by
    show ((((0#32 : BitVec 32).toInt : ℝ)) : EReal) = 0
    norm_num
  rw [hf]
  unfold Spec.segRow Spec.before
  have hz : ∀ u v : EReal, Scalar.select 0#1 u v = v := fun _ _ => rfl
  have ho : ∀ u v : EReal, Scalar.select 1#1 u v = u := fun _ _ => rfl
  rcases sge_bit (BitVec.ofNat 32 q) c with ⟨e, e'⟩ | ⟨e, e'⟩ <;> rw [e, e'] <;> fin_cases b
  · rw [show BitVec.setWidth 32 (IntOp.cmpi .eq (IntOp.minsi (IntOp.addi (BitVec.setWidth 32 0#1) 0#32) 1#32) (BitVec.ofNat 32 ((⟨0, by decide⟩ : Fin 2) : ℕ))) = 1#32 by decide, h1, one_mul]; rfl
  · rw [show BitVec.setWidth 32 (IntOp.cmpi .eq (IntOp.minsi (IntOp.addi (BitVec.setWidth 32 0#1) 0#32) 1#32) (BitVec.ofNat 32 ((⟨1, by decide⟩ : Fin 2) : ℕ))) = 0#32 by decide, h0, zero_mul]; rfl
  · rw [show BitVec.setWidth 32 (IntOp.cmpi .eq (IntOp.minsi (IntOp.addi (BitVec.setWidth 32 1#1) 0#32) 1#32) (BitVec.ofNat 32 ((⟨0, by decide⟩ : Fin 2) : ℕ))) = 0#32 by decide, h0, zero_mul]; rfl
  · rw [show BitVec.setWidth 32 (IntOp.cmpi .eq (IntOp.minsi (IntOp.addi (BitVec.setWidth 32 1#1) 0#32) 1#32) (BitVec.ofNat 32 ((⟨1, by decide⟩ : Fin 2) : ℕ))) = 1#32 by decide, h1, one_mul]; rfl

/-- The segment means: the packed rows of a segment summed, over the segment's length. -/
theorem pay8_at (cu : Vec Ideal S3 .i32) (c s : FVec Ideal S2048x1536 .f32) (g be : Vec Ideal S1536 .f32)
    (b : Fin 2) (l : Fin 1536) :
    k0_pay8 (F := Ideal) cu c s g be (ix2 b l) =
      Spec.meanAt b (fun r l => k0_pay7 (F := Ideal) cu c s g be (ix2 r l)) (cu (ix1 1)) (cu (ix1 ⟨1 + b.val, by omega⟩))
        (cu (ix1 ⟨b.val, by omega⟩)) l := by
  pointwise [k0_pay8, k0_pay6, Spec.meanAt]
  exact congrArg (fun u => Ideal.div u _) (Finset.sum_congr rfl fun r _ => onehot_mul r.val _ b _)

/-- The length of each mean, at least a tiny number. -/
theorem pay9_at (cu : Vec Ideal S3 .i32) (c s : FVec Ideal S2048x1536 .f32) (g be : Vec Ideal S1536 .f32) (b : Fin 2) :
    k0_pay9 (F := Ideal) cu c s g be (ix2 b 0) =
      max (Ideal.sqrt (∑ k, (k0_pay8 (F := Ideal) cu c s g be (ix2 b k) : EReal) * k0_pay8 (F := Ideal) cu c s g be (ix2 b k)))
        (Ideal.ofBits .f32 0x2B8CBCCC#32) := by
  pointwise [k0_pay9]

/-- The scales: the quantization step of each mean over its length. -/
theorem pay2_at (m : FVec Ideal S2x1536 .f32) (n : FVec Ideal S2x1 .f32) (b : Fin 2) :
    k0_pay2 (F := Ideal) m n (ix1 b) = Spec.scale fun l => Ideal.div (m (ix2 b l)) (n (ix2 b 0)) := by
  pointwise [k0_pay2, k0_pay1, Spec.scale, Spec.amax]

/-- The codes: each mean over its length, quantized. -/
theorem pay3_at (m : FVec Ideal S2x1536 .f32) (n : FVec Ideal S2x1 .f32) (b : Fin 2) (l : Fin 1536) :
    k0_pay3 (F := Ideal) m n (ix2 b l) = Spec.code (fun l => Ideal.div (m (ix2 b l)) (n (ix2 b 0))) l := by
  pointwise [k0_pay3, k0_pay2, k0_pay1, Spec.code, Spec.scale, Spec.amax]

/-! ## The four results at an index -/

section Results
variable (x : Vec Ideal S2048x1536 .bf16) (h : Vec Ideal S2048x8960 .fp8e4m3) (hs : Vec Ideal S2048x70 .f32)
  (w : Vec Ideal S8960x1536 .fp8e4m3) (ws : Vec Ideal S70x12 .f32) (b g be : Vec Ideal S1536 .f32) (cu : Vec Ideal S3 .i32)

/-- Packed row `r`, of the argument arrays. -/
def zAt (r : Fin 2048) (l : Fin 1536) : EReal :=
  Spec.zRow (Spec.normRow (Spec.yRow (fun l => x (ix2 r l)) (Spec.hdRow (fun k => h (ix2 r k)) fun j => hs (ix2 r j))
        (Spec.wdAt (fun k l => w (ix2 k l)) fun i j => ws (ix2 i j)) fun l => b (ix1 l)) (fun l => g (ix1 l)) fun l => be (ix1 l))
    r.val (cu (ix1 2)) l

/-- The mean of segment `s`, of the argument arrays. -/
def mAt (s : Fin 2) (l : Fin 1536) : EReal :=
  Spec.meanAt s (zAt x h hs w ws b g be cu) (cu (ix1 1)) (cu (ix1 ⟨1 + s.val, by omega⟩)) (cu (ix1 ⟨s.val, by omega⟩)) l

/-- The centred rows, of the whole argument arrays. -/
theorem pay10_eq : k0_pay10 (F := Ideal) x h hs w ws b g be cu = k0_pay4 h hs w ws x b := by
  unfold k0_pay10
  simp (disch := decide) only [View.ld_unit_lit']

/-- One over the standard deviations, of the whole argument arrays. -/
theorem pay11_eq : k0_pay11 (F := Ideal) x h hs w ws b g be cu = k0_pay5 h hs w ws x b := by
  unfold k0_pay11
  simp (disch := decide) only [View.ld_unit_lit']

/-- The means, of the whole argument arrays. -/
theorem pay12_eq : k0_pay12 (F := Ideal) x h hs w ws b g be cu =
    k0_pay8 cu (k0_pay4 h hs w ws x b) (k0_pay5 h hs w ws x b) g be := by
  unfold k0_pay12
  rw [pay10_eq, pay11_eq]
  simp (disch := decide) only [View.ld_unit_lit']

/-- Their lengths, of the whole argument arrays. -/
theorem pay13_eq : k0_pay13 (F := Ideal) x h hs w ws b g be cu =
    k0_pay9 cu (k0_pay4 h hs w ws x b) (k0_pay5 h hs w ws x b) g be := by
  unfold k0_pay13
  rw [pay10_eq, pay11_eq]
  simp (disch := decide) only [View.ld_unit_lit']

/-- The packed rows, of the whole argument arrays. -/
theorem pay7_eq (r : Fin 2048) (l : Fin 1536) :
    k0_pay7 (F := Ideal) cu (k0_pay4 h hs w ws x b) (k0_pay5 h hs w ws x b) g be (ix2 r l) = zAt x h hs w ws b g be cu r l :=
  (pay7_at cu _ _ g be r l).trans (congrArg (fun n => Spec.zRow n r.val (cu (ix1 2)) l) (funext fun l => congrArg₂
    (fun u v : EReal => u * v * g (ix1 l) + be (ix1 l)) (pay4_at h hs w ws x b r l) (pay5_at h hs w ws x b r l)))

/-- The reference's first result is the packed rows. -/
theorem G9_at (r : Fin 2048) (l : Fin 1536) :
    Value.G9 (F := Ideal) x h hs w ws b g be cu (ix2 r l) = zAt x h hs w ws b g be cu r l := by
  show k0_pay7 cu (k0_pay10 x h hs w ws b g be cu) (k0_pay11 x h hs w ws b g be cu) g be (ix2 r l) = _
  rw [pay10_eq, pay11_eq]
  exact pay7_eq x h hs w ws b g be cu r l

/-- The reference's second result is the segment means. -/
theorem G10_at (s : Fin 2) (l : Fin 1536) :
    Value.G10 (F := Ideal) x h hs w ws b g be cu (ix2 s l) = mAt x h hs w ws b g be cu s l := by
  show k0_pay12 x h hs w ws b g be cu (ix2 s l) = _
  rw [pay12_eq, pay8_at]
  exact congrArg (fun z => Spec.meanAt s z _ _ _ l) (funext fun r => funext fun l => pay7_eq x h hs w ws b g be cu r l)

/-- A mean over its length, of the argument arrays. -/
theorem unit_eq (s : Fin 2) : (fun l : Fin 1536 => Ideal.div (k0_pay12 (F := Ideal) x h hs w ws b g be cu (ix2 s l))
    (k0_pay13 (F := Ideal) x h hs w ws b g be cu (ix2 s 0))) = Spec.unit (mAt x h hs w ws b g be cu s) := by
  funext l
  rw [pay13_eq, pay9_at, ← pay12_eq]
  have e : (fun l => k0_pay12 (F := Ideal) x h hs w ws b g be cu (ix2 s l)) = mAt x h hs w ws b g be cu s :=
    funext fun l => G10_at x h hs w ws b g be cu s l
  rw [← e]
  rfl

/-- The reference's third result is the codes of the normalised means. -/
theorem G11_at (s : Fin 2) (l : Fin 1536) :
    Value.G11 (F := Ideal) x h hs w ws b g be cu (ix2 s l) = Spec.code (Spec.unit (mAt x h hs w ws b g be cu s)) l :=
  (pay3_at _ _ s l).trans (congrArg (fun e => Spec.code e l) (unit_eq x h hs w ws b g be cu s))

/-- The reference's fourth result is the scales of the normalised means. -/
theorem G12_at (s : Fin 2) :
    Value.G12 (F := Ideal) x h hs w ws b g be cu (ix1 s) = Spec.scale (Spec.unit (mAt x h hs w ws b g be cu s)) :=
  (pay2_at _ _ s).trans (congrArg Spec.scale (unit_eq x h hs w ws b g be cu s))

end Results
end RefValue
-- ==== Proof.KernelRows.lean ====
module

public import Idealize.ShloMosaic.Lib.Pipeline.ValueKit
public import Idealize.ShloMosaic.Lib.Pointwise
public import proofs.«01_k».proof.Proof.KernelBlock
public import proofs.«01_k».proof.Proof.RefValue

/-! # The packed rows of every block

The block a grid point reads is 256 rows of the arguments. So row `r` of the packed rows that point
`t` writes is row `256 t + r` of what the reference computes. -/

@[expose] public section

set_option maxRecDepth 16384
noncomputable section
namespace KernelRows
open Idealize.ShloMosaic Idealize.ShloMosaic.TcCoe Idealize.SL.Sem
open Idealize.ShloMosaic.Pipeline (Dat)
open Cert.KernelIdeal Cert.KernelIdeal.Gen
variable (m : (ℓ : Loc nD τ sig) → Buf (Elt Ideal) ℓ)

/-- The block of each window at point `t`. -/
theorem idx : ∀ t : Fin cfg0.N, win0_0.index t = ![0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![0, 0] ∧ win0_10.index t = ![0, 0]
    ∧ win0_11.index t = ![0] ∧ t.val < 8 :=
  (by decide +kernel : ∀ t : Fin grid0.N, _)

/-- Row `r` of block `t` is row `256 t + r` of the array. -/
def rowOf (t : Fin cfg0.N) (r : Fin 256) : Fin 2048 := ⟨t.val * 256 + r.val, by
  have h : t.val < 8 := (idx t).2.2.2.2.2.2.2.2.2.2.2.2
  omega⟩

/-- The residual. -/
abbrev X (c : Dev nD) : Vec Ideal S2048x1536 .bf16 := m ((c : Thread nD τ).loc main_arg0)
/-- The activations. -/
abbrev H (c : Dev nD) : Vec Ideal S2048x8960 .fp8e4m3 := m ((c : Thread nD τ).loc main_arg1)
/-- The activation scales. -/
abbrev HS (c : Dev nD) : Vec Ideal S2048x70 .f32 := m ((c : Thread nD τ).loc main_arg2)
/-- The weights. -/
abbrev W (c : Dev nD) : Vec Ideal S8960x1536 .fp8e4m3 := m ((c : Thread nD τ).loc main_arg3)
/-- The weight scales. -/
abbrev WS (c : Dev nD) : Vec Ideal S70x12 .f32 := m ((c : Thread nD τ).loc main_arg4)
/-- The bias. -/
abbrev B (c : Dev nD) : Vec Ideal S1536 .f32 := m ((c : Thread nD τ).loc main_arg5)
/-- The layer norm gain. -/
abbrev G (c : Dev nD) : Vec Ideal S1536 .f32 := m ((c : Thread nD τ).loc main_arg6)
/-- The layer norm shift. -/
abbrev BE (c : Dev nD) : Vec Ideal S1536 .f32 := m ((c : Thread nD τ).loc main_arg7)
/-- The segment boundaries. -/
abbrev CU (c : Dev nD) : Vec Ideal S3 .i32 := m ((c : Thread nD τ).loc main_arg8)

/-- The boundaries at any point are the argument. -/
theorem blk0 (c : Dev nD) (t : Fin cfg0.N) (k : Fin 3) : KernelBlock.cu m c t k = CU m c (ix1 k) := by
  show (iblk m c 0 t : Vec Ideal S3 .i32) (ix1 k) = CU m c (ix1 k)
  blk_ext [iblk, V, idx t]

/-- The weight scales at any point are the whole argument. -/
theorem blk1 (c : Dev nD) (t : Fin cfg0.N) : iblk m c 1 t = WS m c := by
  blk_ext! [iblk, V, idx t]

/-- Row `r` of the residual block. -/
theorem blk2 (c : Dev nD) (t : Fin cfg0.N) (r : Fin 256) (l : Fin 1536) :
    (iblk m c 2 t : Vec Ideal S256x1536 .bf16) (ix2 r l) = X m c (ix2 (rowOf t r) l) := by
  blk_ext [iblk, V, idx t, rowOf]

/-- Row `r` of the activations block. -/
theorem blk3 (c : Dev nD) (t : Fin cfg0.N) (r : Fin 256) (k : Fin 8960) :
    (iblk m c 3 t : Vec Ideal S256x8960 .fp8e4m3) (ix2 r k) = H m c (ix2 (rowOf t r) k) := by
  blk_ext [iblk, V, idx t, rowOf]

/-- Row `r` of the activation scales block. -/
theorem blk4 (c : Dev nD) (t : Fin cfg0.N) (r : Fin 256) (j : Fin 70) :
    (iblk m c 4 t : Vec Ideal S256x70 .f32) (ix2 r j) = HS m c (ix2 (rowOf t r) j) := by
  blk_ext [iblk, V, idx t, rowOf]

/-- The bias at any point. -/
theorem blk5 (c : Dev nD) (t : Fin cfg0.N) (l : Fin 1536) :
    (iblk m c 5 t : Vec Ideal S1x1536 .f32) (ix2 0 l) = B m c (ix1 l) := by
  blk_simp [iblk, idx t]
  entry_read
  pointwise
  all_goals blk_ext [idx t]

/-- The layer norm gain at any point. -/
theorem blk6 (c : Dev nD) (t : Fin cfg0.N) (l : Fin 1536) :
    (iblk m c 6 t : Vec Ideal S1x1536 .f32) (ix2 0 l) = G m c (ix1 l) := by
  blk_simp [iblk, idx t]
  entry_read
  pointwise
  all_goals blk_ext [idx t]

/-- The layer norm shift at any point. -/
theorem blk7 (c : Dev nD) (t : Fin cfg0.N) (l : Fin 1536) :
    (iblk m c 7 t : Vec Ideal S1x1536 .f32) (ix2 0 l) = BE m c (ix1 l) := by
  blk_simp [iblk, idx t]
  entry_read
  pointwise
  all_goals blk_ext [idx t]

/-- The dequantized weights. -/
abbrev WD (c : Dev nD) : Vec Ideal S8960x1536 .bf16 := KernelWeights.wd (W m c) (WS m c)

/-- The packed rows of the reference at the kernel's arguments. -/
abbrev zAt (c : Dev nD) (r : Fin 2048) (l : Fin 1536) : EReal :=
  RefValue.zAt (X m c) (H m c) (HS m c) (W m c) (WS m c) (B m c) (G m c) (BE m c) (CU m c) r l

/-- Row `r` of the packed rows of block `t` is row `256 t + r` of the reference's. -/
theorem Z_at (c : Dev nD) (t : Fin cfg0.N) (r : Fin 256) (l : Fin 1536) :
    KernelBlock.Z m c t (WD m c) (ix2 r l) = zAt m c (rowOf t r) l := by
  refine (KernelPure.pay115_at t.val _ _ _ _ _ _ _ r l).trans ?_
  have e2 : (fun l => (iblk m c 2 t : Vec Ideal S256x1536 .bf16) (ix2 r l)) = fun l => X m c (ix2 (rowOf t r) l) := funext (blk2 m c t r)
  have e3 : (fun k => (iblk m c 3 t : Vec Ideal S256x8960 .fp8e4m3) (ix2 r k)) = fun k => H m c (ix2 (rowOf t r) k) := funext (blk3 m c t r)
  have e4 : (fun j => (iblk m c 4 t : Vec Ideal S256x70 .f32) (ix2 r j)) = fun j => HS m c (ix2 (rowOf t r) j) := funext (blk4 m c t r)
  have e5 : (fun l => (iblk m c 5 t : Vec Ideal S1x1536 .f32) (ix2 0 l)) = fun l => B m c (ix1 l) := funext (blk5 m c t)
  have e6 : (fun l => (iblk m c 6 t : Vec Ideal S1x1536 .f32) (ix2 0 l)) = fun l => G m c (ix1 l) := funext (blk6 m c t)
  have e7 : (fun l => (iblk m c 7 t : Vec Ideal S1x1536 .f32) (ix2 0 l)) = fun l => BE m c (ix1 l) := funext (blk7 m c t)
  have e0 := blk0 m c t 2
  have ehd : (fun k => KernelHd.hd (iblk m c 3 t) (iblk m c 4 t) (ix2 r k)) = Spec.hdRow (fun k => H m c (ix2 (rowOf t r) k)) fun j => HS m c (ix2 (rowOf t r) j) :=
    congrArg₂ Spec.hdRow e3 e4
  have hz : ∀ {x x' : Fin 1536 → EReal} {h h' : Fin 8960 → EReal} {wd : Fin 8960 → Fin 1536 → EReal} {b b' g g' be be' : Fin 1536 → EReal} {c2 c2' : BitVec 32} {n : ℕ},
      x = x' → h = h' → b = b' → g = g' → be = be' → c2 = c2' →
      Spec.zRow (Spec.normRow (Spec.yRow x h wd b) g be) n c2 l = Spec.zRow (Spec.normRow (Spec.yRow x' h' wd b') g' be') n c2' l := by
    intros; subst_vars; rfl
  exact hz e2 ehd e5 e6 e7 e0

end KernelRows
-- ==== Proof.KernelSums.lean ====
module

public import Idealize.ShloMosaic.Lib.Pipeline.ValueKit
public import Idealize.ShloMosaic.Lib.Pipeline.ValueKit.Held
public import proofs.«01_k».proof.Proof.KernelRows

/-! # What the scratches hold

The dequantized weights are written at the first point and kept. The partial sums start at zero and
every point adds its rows; summed over the eight sublanes, after the last point they are the sums over
all 2048 rows. -/

@[expose] public section

set_option maxRecDepth 16384
noncomputable section
namespace KernelSums
open Idealize.ShloMosaic Idealize.ShloMosaic.TcCoe Idealize.SL.Sem
open Idealize.ShloMosaic.Pipeline (Dat)
open Cert.KernelIdeal Cert.KernelIdeal.Gen
open KernelBlock KernelRows
variable (m : (ℓ : Loc nD τ sig) → Buf (Elt Ideal) ℓ)

/-- At the first point the weights scratch is the dequantized weights. -/
theorem wd_first (c : Dev nD) (t : Fin cfg0.N) : KernelWeights.wd (V m c main_arg3) (iblk m c 1 t) = WD m c :=
  congrArg (KernelWeights.wd (W m c)) (blk1 m c t)

/-- After every point the weights scratch is the dequantized weights. -/
theorem weights (c : Dev nD) (t : Fin cfg0.N) : (outsAt0 m c t.val t.isLt).2.2.2.2.1 = WD m c := by
  refine Pipeline.eq_of_write_hold (fun n h => (outsAt0 m c n h).2.2.2.2.1) 8 (fun _ => WD m c) (fun t h => ?_) (fun t h => ?_) t
  · exact (wA m c t h (by omega)).trans (wd_first m c t)
  · by_cases h1 : t.val % 8 = 7
    · exact wC m c t h h1
    · exact wB m c t h h1

/-- Before a point other than the first too. -/
theorem prev_weights (c : Dev nD) (t : Fin cfg0.N) : (prev m c t).2.2.2.2.1 = WD m c :=
  weights m c ⟨t.val - 1, Nat.lt_of_le_of_lt (Nat.sub_le _ _) t.isLt⟩

/-- Every point writes its packed rows. -/
theorem packed (c : Dev nD) (t : Fin cfg0.N) : (outsAt0 m c t.val t.isLt).1 = Z m c t (WD m c) := by
  by_cases h0 : t.val % 8 = 0
  · exact (zA m c t h0 (by omega)).trans (congrArg (Z m c t) (wd_first m c t))
  · by_cases h1 : t.val % 8 = 7
    · exact (zC m c t h0 h1).trans (congrArg (Z m c t) (prev_weights m c t))
    · exact (zB m c t h0 h1).trans (congrArg (Z m c t) (prev_weights m c t))

/-- What row `r` of the packed rows adds to column `l` of segment `b`. -/
def part (c : Dev nD) (b : Fin 2) (l : Fin 1536) (r : Fin 2048) : EReal :=
  Spec.segRow b (zAt m c r l) r.val (CU m c (ix1 1))

/-- What point `t` adds to the partial sums. -/
def term (c : Dev nD) (t : Fin cfg0.N) (y : S2x8x1536.Idx) : EReal :=
  ∑ k : Fin 32, part m c (y 0) (y 2) (rowOf t ⟨k.val * 8 + (y 1).val, by have := k.isLt; have : (y 1).val < 8 := (y 1).isLt; omega⟩)

/-- One point's step on the partial sums. -/
theorem sums_at (c : Dev nD) (t : Fin cfg0.N) (S : Vec Ideal S2x8x1536 .f32) (y : S2x8x1536.Idx) :
    sums m c t (WD m c) S y = (show EReal from S y) + term m c t y := by
  refine congrArg₂ (fun u v : EReal => u + v) (congrArg S (eq_ix3 y).symm) ?_
  refine Finset.sum_congr rfl fun k _ => ?_
  exact congrArg₂ (fun z c => Spec.segRow (y 0) z (t.val * 256 + (k.val * 8 + (y 1).val)) c) (Z_at m c t _ _) (blk0 m c t 1)

/-- The partial sums after the last point. -/
theorem total (c : Dev nD) (y : S2x8x1536.Idx) :
    (outsAt0 m c t0_7.val t0_7.isLt).2.2.2.2.2 y = (∑ t : Fin cfg0.N, term m c t y : EReal) := by
  refine (Pipeline.eq_sum_fin_of_reset_step_apply_last (M := EReal) (fun n h y => (outsAt0 m c n h).2.2.2.2.2 y) 8 (fun _ => 0)
    (term m c) (fun t h y => ?_) (fun t h y => ?_) (le_of_eq N_0) t0_7 rfl y).trans (zero_add _)
  · refine (congrFun (sA m c t h (by omega)) y).trans ?_
    rw [wd_first]
    refine (sums_at m c t _ y).trans (congrArg (fun u : EReal => u + term m c t y) ?_)
    exact (congrArg (k0_pay25 (F := Ideal)) (eq_ix3 y)).trans (KernelPure.pay25_at _ _ _)
  · have e : (outsAt0 m c t.val t.isLt).2.2.2.2.2 = sums m c t (prev m c t).2.2.2.2.1 (prev m c t).2.2.2.2.2 := by
      by_cases h1 : t.val % 8 = 7
      · exact sC m c t h h1
      · exact sB m c t h h1
    refine (congrFun e y).trans ?_
    rw [prev_weights]
    exact sums_at m c t _ y

/-- A sum over 2048 rows, by sublane, block of 256 and group of eight. -/
theorem sum_rows (F : Fin 2048 → EReal) :
    ∑ q : Fin 8, ∑ t : Fin cfg0.N, ∑ k : Fin 32, F (rowOf t ⟨k.val * 8 + q.val, by omega⟩) = ∑ r : Fin 2048, F r := by
  have e1 : ∑ r : Fin 2048, F r = ∑ t : Fin 8, ∑ u : Fin 256, F ⟨t.val * 256 + u.val, by omega⟩ :=
    Fin.sum_univ_tiles 8 256 rfl F
  have e2 : ∀ t : Fin 8, ∑ u : Fin 256, F ⟨t.val * 256 + u.val, by omega⟩
      = ∑ k : Fin 32, ∑ q : Fin 8, F ⟨t.val * 256 + (k.val * 8 + q.val), by omega⟩ := fun t =>
    Fin.sum_univ_tiles 32 8 rfl fun u : Fin 256 => F ⟨t.val * 256 + u.val, by omega⟩
  rw [e1, Finset.sum_comm, ← Equiv.sum_comp (finCongr N_0)]
  refine Finset.sum_congr rfl fun t _ => ?_
  rw [Finset.sum_comm]
  exact (e2 (finCongr N_0 t)).symm

/-- The mean of a segment, from the partial sums after the last point, is the reference's. -/
theorem mean_at (c : Dev nD) (b : Fin 2) (ce cs : Elt Ideal .i32) (l : Fin 1536) :
    k0_pay15 ce cs (row (outsAt0 m c t0_7.val t0_7.isLt).2.2.2.2.2 b) (ix2 0 l)
      = Spec.meanAt b (zAt m c) (CU m c (ix1 1)) ce cs l := by
  refine (KernelPure.pay15_at ce cs _ l).trans ?_
  refine congrArg (fun u => Ideal.div u (FloatOps.sitofp (F := Ideal) .f32 (IntOp.subi ce cs))) ?_
  refine Eq.trans ?_ (sum_rows (part m c b l))
  exact Finset.sum_congr rfl fun q _ => total m c (ix3 b q l)

end KernelSums
-- ==== Proof.KernelArrays.lean ====
module

public import Idealize.ShloMosaic.Lib.Pipeline.ValueKit
public import proofs.«01_k».proof.Proof.KernelSums

/-! # The kernel's four results

After the run the four result arrays hold the reference's packed rows, segment means, codes and
scales at the kernel's arguments. -/

@[expose] public section

set_option maxRecDepth 16384
noncomputable section
namespace KernelArrays
open Idealize.ShloMosaic Idealize.ShloMosaic.TcCoe Idealize.SL.Sem
open Idealize.ShloMosaic.Pipeline (Dat)
open Cert.KernelIdeal Cert.KernelIdeal.Gen
open KernelBlock KernelRows KernelSums
variable (m : (ℓ : Loc nD τ sig) → Buf (Elt Ideal) ℓ)

/-- The last point is in the last case. -/
theorem last : ¬ (t0_7 : Fin cfg0.N).val % 8 = 0 ∧ (t0_7 : Fin cfg0.N).val % 8 = 7 :=
  ⟨by rw [show (t0_7 : Fin cfg0.N).val = 7 from rfl]; decide, by rw [show (t0_7 : Fin cfg0.N).val = 7 from rfl]⟩

/-- The mean of a segment in the reference, at the kernel's arguments. -/
abbrev mAt (c : Dev nD) (s : Fin 2) (l : Fin 1536) : EReal :=
  RefValue.mAt (X m c) (H m c) (HS m c) (W m c) (WS m c) (B m c) (G m c) (BE m c) (CU m c) s l

/-- The first result of the reference at the kernel's arguments. -/
abbrev R0 (c : Dev nD) : Vec Ideal S2048x1536 .f32 :=
  Cert.ReferenceIdeal.Value.G9 (F := Ideal) (X m c) (H m c) (HS m c) (W m c) (WS m c) (B m c) (G m c) (BE m c) (CU m c)

/-- The second result of the reference at the kernel's arguments. -/
abbrev R1 (c : Dev nD) : Vec Ideal S2x1536 .f32 :=
  Cert.ReferenceIdeal.Value.G10 (F := Ideal) (X m c) (H m c) (HS m c) (W m c) (WS m c) (B m c) (G m c) (BE m c) (CU m c)

/-- The third result of the reference at the kernel's arguments. -/
abbrev R2 (c : Dev nD) : Vec Ideal S2x1536 .i8 :=
  Cert.ReferenceIdeal.Value.G11 (F := Ideal) (X m c) (H m c) (HS m c) (W m c) (WS m c) (B m c) (G m c) (BE m c) (CU m c)

/-- The fourth result of the reference at the kernel's arguments. -/
abbrev R3 (c : Dev nD) : Vec Ideal S2 .f32 :=
  Cert.ReferenceIdeal.Value.G12 (F := Ideal) (X m c) (H m c) (HS m c) (W m c) (WS m c) (B m c) (G m c) (BE m c) (CU m c)

/-- The partial sums after the last point, as one step from those before it. -/
theorem last_sums (c : Dev nD) : (outsAt0 m c t0_7.val t0_7.isLt).2.2.2.2.2
    = sums m c t0_7 (prev m c t0_7).2.2.2.2.1 (prev m c t0_7).2.2.2.2.2 := sC m c t0_7 last.1 last.2

/-- The mean the last point stores for segment `s`, word by word of the boundaries. -/
theorem mean_eq (c : Dev nD) (s : Fin 2) (ce cs : Elt Ideal .i32) (hce : ce = CU m c (ix1 ⟨1 + s.val, by omega⟩))
    (hcs : cs = CU m c (ix1 ⟨s.val, by omega⟩)) (l : Fin 1536) :
    k0_pay15 ce cs (row (outsAt0 m c t0_7.val t0_7.isLt).2.2.2.2.2 s) (ix2 0 l) = mAt m c s l := by
  subst hce hcs
  exact mean_at m c s _ _ l

/-- The normalised mean of segment `s`. -/
theorem unit_eq (c : Dev nD) (s : Fin 2) (ce cs : Elt Ideal .i32) (hce : ce = CU m c (ix1 ⟨1 + s.val, by omega⟩))
    (hcs : cs = CU m c (ix1 ⟨s.val, by omega⟩)) :
    (fun l => k0_pay16 ce cs (row (outsAt0 m c t0_7.val t0_7.isLt).2.2.2.2.2 s) (ix2 0 l)) = Spec.unit (mAt m c s) := by
  funext l
  refine (KernelPure.pay16_at ce cs _ l).trans ?_
  exact congrArg (fun e => Spec.unit e l) (funext fun l => mean_eq m c s ce cs hce hcs l)

/-- The second output at the last point. -/
theorem means_at (c : Dev nD) (s : Fin 2) (l : Fin 1536) :
    (outsAt0 m c t0_7.val t0_7.isLt).2.1 (ix2 s l) = R1 m c (ix2 s l) := by
  refine (meansC m c t0_7 last.1 last.2 _ (last_sums m c) (ix2 s l)).trans ?_
  refine (mean_eq m c s _ _ ?_ ?_ l).trans (RefValue.G10_at _ _ _ _ _ _ _ _ _ s l).symm
  · exact (blk0 m c t0_7 _).trans (congrArg (fun k => CU m c (ix1 k)) (Fin.ext (Nat.add_comm s.val 1)))
  · exact blk0 m c t0_7 _

/-- The third output at the last point. -/
theorem codes_at (c : Dev nD) (s : Fin 2) (l : Fin 1536) :
    (outsAt0 m c t0_7.val t0_7.isLt).2.2.1 (ix2 s l) = R2 m c (ix2 s l) := by
  refine (congrFun (codesC m c t0_7 last.1 last.2 _ (last_sums m c)) (ix2 s l)).trans ?_
  refine (KernelPure.pay24_at _ _ _ _ s l).trans (Eq.trans ?_ (RefValue.G11_at _ _ _ _ _ _ _ _ _ s l).symm)
  rcases (by omega : s.val = 0 ∨ s.val = 1) with h | h
  · obtain rfl : s = 0 := Fin.ext h
    rw [if_pos rfl]
    refine (KernelPure.pay18_at _ _ _ l).trans ?_
    exact congrArg (fun e => Spec.code e l) (unit_eq m c 0 _ _ (blk0 m c t0_7 1) (blk0 m c t0_7 0))
  · obtain rfl : s = 1 := Fin.ext h
    rw [if_neg (by decide)]
    exact congrArg (fun e => Spec.code e l) (unit_eq m c 1 _ _ (blk0 m c t0_7 2) (blk0 m c t0_7 1))

/-- The fourth output at the last point. -/
theorem scales_at (c : Dev nD) (s : Fin 2) :
    (outsAt0 m c t0_7.val t0_7.isLt).2.2.2.1 (ix1 s) = R3 m c (ix1 s) := by
  refine (scalesC m c t0_7 last.1 last.2 _ (last_sums m c) (ix1 s)).trans ?_
  refine (KernelPure.pay19_eq _ _ _).trans (Eq.trans ?_ (RefValue.G12_at _ _ _ _ _ _ _ _ _ s).symm)
  refine congrArg Spec.scale (unit_eq m c s _ _ ?_ ?_)
  · exact (blk0 m c t0_7 _).trans (congrArg (fun k => CU m c (ix1 k)) (Fin.ext (Nat.add_comm s.val 1)))
  · exact blk0 m c t0_7 _

/-- The first output at every point. -/
theorem packed_at (c : Dev nD) (t : Fin cfg0.N) (r : Fin 256) (l : Fin 1536) :
    (outsAt0 m c t.val t.isLt).1 (ix2 r l) = R0 m c (ix2 (rowOf t r) l) :=
  (congrFun (packed m c t) (ix2 r l)).trans ((Z_at m c t r l).trans (RefValue.G9_at _ _ _ _ _ _ _ _ _ _ l).symm)

/-- The first result array. -/
theorem final8 (c : Dev nD) : (dats m 0 c).arrAt 8 cfg0.N = R0 m c := by
  refine (dats m 0 c).arrAt_eq_of_covers 8 _ (by decide +kernel) fun t hf y => ?_
  rw [after0_8]
  blk_simp
  obtain ⟨r, l, rfl⟩ : ∃ (r : Fin 256) (l : Fin 1536), y = (ix2 r l : S256x1536.Idx) := ⟨y 0, y 1, eq_ix2 y⟩
  refine (packed_at m c t r l).trans (congrArg (R0 m c) ?_)
  blk_ext [idx t, rowOf]

/-- The second result array. -/
theorem final9 (c : Dev nD) : (dats m 0 c).arrAt 9 cfg0.N = R1 m c := by
  refine (dats m 0 c).arrAt_eq_of_after_last 9 t0_7 (by decide +kernel) _ fun j => ?_
  rw [after0_9]
  blk_simp
  obtain ⟨s, l, rfl⟩ : ∃ (s : Fin 2) (l : Fin 1536), j = (ix2 s l : S2x1536.Idx) := ⟨j 0, j 1, eq_ix2 j⟩
  exact means_at m c s l

/-- The third result array. -/
theorem final10 (c : Dev nD) : (dats m 0 c).arrAt 10 cfg0.N = R2 m c := by
  refine (dats m 0 c).arrAt_eq_of_after_last 10 t0_7 (by decide +kernel) _ fun j => ?_
  rw [after0_10]
  blk_simp
  obtain ⟨s, l, rfl⟩ : ∃ (s : Fin 2) (l : Fin 1536), j = (ix2 s l : S2x1536.Idx) := ⟨j 0, j 1, eq_ix2 j⟩
  exact codes_at m c s l

/-- The fourth result array. -/
theorem final11 (c : Dev nD) : (dats m 0 c).arrAt 11 cfg0.N = R3 m c := by
  refine (dats m 0 c).arrAt_eq_of_after_last 11 t0_7 (by decide +kernel) _ fun j => ?_
  rw [after0_11]
  blk_simp
  obtain ⟨s, rfl⟩ : ∃ s : Fin 2, j = (ix1 s : S2.Idx) := ⟨j 0, eq_ix1 j⟩
  exact scales_at m c s

end KernelArrays
-- ==== Proof.Assembly.lean ====
module

public import proofs.«01_k».proof.Defs
public import proofs.«01_k».proof.Proof.KernelArrays

/-! # The equation

Kernel and reference, run on the same arguments, end with the same four results. -/

@[expose] public section

set_option maxRecDepth 16384
noncomputable section
namespace Assembly
open Idealize.ShloMosaic Idealize.SL.Sem

/-- Kernel and reference, at the extended reals, end with equal results from equal arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => KernelArrays.R0 m c, fun c => KernelArrays.R1 m c, fun c => KernelArrays.R2 m c, fun c => KernelArrays.R3 m c, ?_, ?_⟩
  · refine (θ_run _ _ _).mono (fun r h c => ?_) (Cert.KernelIdeal.Value.run_blocks m g)
    obtain ⟨h0, h1, h2, h3, hargs⟩ := h c
    exact ⟨h0.trans (KernelArrays.final8 m c), h1.trans (KernelArrays.final9 m c), h2.trans (KernelArrays.final10 m c),
      h3.trans (KernelArrays.final11 m c), hargs⟩
  · refine (θ_run _ _ _).mono (fun r h c => ?_) (Cert.ReferenceIdeal.Value.run m' g')
    obtain ⟨h0, h1, h2, h3, hargs⟩ := h c
    obtain ⟨a0, a1, a2, a3, a4, a5, a6, a7, a8⟩ := hagree c
    refine ⟨h0.trans ?_, h1.trans ?_, h2.trans ?_, h3.trans ?_, hargs⟩ <;>
      rw [a0, a1, a2, a3, a4, a5, a6, a7, a8]

end Assembly
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Assembly
public import Idealize.ShloMosaic.Adequacy
public import Idealize.ShloMosaic.Init

@[expose] public section

noncomputable section

namespace Cert.Proof

open Idealize.ShloMosaic Idealize.SL.Sem

/-- Everything the certificate claims: the kernel, its idealization and the reference run to the end and keep their
arguments; the idealization is the kernel's; and kernel and reference end with equal results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, Assembly.algebraic⟩

end Cert.Proof

end
